-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v31_0)) (v1 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_0) = v0 c
          ∧ r.2.mem ((c.tc : Thread Cert.KernelIdeal.nD Cert.KernelIdeal.τ).loc Cert.KernelIdeal.main_v33) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v15)) (v1 : (c : Dev Cert.Kernel3Ideal.nD) → Buf (Elt Ideal) ((c.tc : Thread Cert.Kernel3Ideal.nD Cert.Kernel3Ideal.τ).loc Cert.Kernel3Ideal.main_v13_0)) (v2 : (c : Dev Cert.Kernel3Ideal.nD) → Buf (Elt Ideal) ((c.tc : Thread Cert.Kernel3Ideal.nD Cert.Kernel3Ideal.τ).loc Cert.Kernel3Ideal.main_v17)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15) = v0 c
          ∧ r.2.mem ((c.tc : Thread Cert.Kernel3Ideal.nD Cert.Kernel3Ideal.τ).loc Cert.Kernel3Ideal.main_v13_0) = v1 c
          ∧ r.2.mem ((c.tc : Thread Cert.Kernel3Ideal.nD Cert.Kernel3Ideal.τ).loc Cert.Kernel3Ideal.main_v17) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S8192x1024 1 × IVec S1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8192x11x256 : Shape := ⟨3, ![8192, 11, 256]⟩
abbrev S11x8192x256 : Shape := ⟨3, ![11, 8192, 256]⟩
abbrev S8x352x1024 : Shape := ⟨3, ![8, 352, 1024]⟩
abbrev S8x1056x1024 : Shape := ⟨3, ![8, 1056, 1024]⟩
abbrev S8x1024 : Shape := ⟨2, ![8, 1024]⟩
abbrev S256x1024 : Shape := ⟨2, ![256, 1024]⟩
abbrev S11x256x256 : Shape := ⟨3, ![11, 256, 256]⟩
abbrev S24 : Shape := ⟨1, ![24]⟩
abbrev S1 : Shape := ⟨1, ![1]⟩
abbrev S352x1024 : Shape := ⟨2, ![352, 1024]⟩
abbrev S1x352x1024 : Shape := ⟨3, ![1, 352, 1024]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩
abbrev S32x8x1024 : Shape := ⟨3, ![32, 8, 1024]⟩

abbrev nBuf : Space → Nat
  | .hbm => 48
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x2816, .f32⟩
  | .hbm, ⟨24, _⟩ => ⟨S8192x11x256, .f32⟩
  | .hbm, ⟨25, _⟩ => ⟨S11x8192x256, .f32⟩
  | .hbm, ⟨26, _⟩ => ⟨S11x8192x256, .bf16⟩
  | .hbm, ⟨27, _⟩ => ⟨S8192x2816, .f32⟩
  | .hbm, ⟨28, _⟩ => ⟨S8192x11x256, .f32⟩
  | .hbm, ⟨29, _⟩ => ⟨S11x8192x256, .f32⟩
  | .hbm, ⟨30, _⟩ => ⟨S11x8192x256, .bf16⟩
  | .hbm, ⟨31, _⟩ => ⟨S2816x1024, .f32⟩
  | .hbm, ⟨32, _⟩ => ⟨S2816x1024, .f32⟩
  | .hbm, ⟨33, _⟩ => ⟨S2816x1024, .bf16⟩
  | .hbm, ⟨34, _⟩ => ⟨S8x352x1024, .bf16⟩
  | .hbm, ⟨35, _⟩ => ⟨S2816x1024, .bf16⟩
  | .hbm, ⟨36, _⟩ => ⟨S8x352x1024, .bf16⟩
  | .hbm, ⟨37, _⟩ => ⟨S2816x1024, .bf16⟩
  | .hbm, ⟨38, _⟩ => ⟨S8x352x1024, .bf16⟩
  | .hbm, ⟨39, _⟩ => ⟨S8x1056x1024, .bf16⟩
  | .hbm, ⟨40, _⟩ => ⟨S8192x1024, .f32⟩
  | .hbm, ⟨41, _⟩ => ⟨S11x8192x256, .bf16⟩
  | .hbm, ⟨42, _⟩ => ⟨S11x8192x256, .bf16⟩
  | .hbm, ⟨43, _⟩ => ⟨S11x8192x256, .bf16⟩
  | .hbm, ⟨44, _⟩ => ⟨S8192x1024, .bf16⟩
  | .hbm, ⟨45, _⟩ => ⟨S8x1024, .f32⟩
  | .hbm, ⟨46, _⟩ => ⟨S1x1024, .f32⟩
  | .hbm, ⟨47, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S11x256x256, .bf16⟩
  | .local _ .vmem, ⟨6, _⟩ => ⟨S11x256x256, .bf16⟩
  | .local _ .vmem, ⟨7, _⟩ => ⟨S11x256x256, .bf16⟩
  | .local _ .vmem, ⟨8, _⟩ => ⟨S11x256x256, .bf16⟩
  | .local _ .vmem, ⟨9, _⟩ => ⟨S256x1024, .f32⟩
  | .local _ .vmem, ⟨10, _⟩ => ⟨S256x1024, .f32⟩
  | .local _ .vmem, ⟨11, _⟩ => ⟨S11x256x256, .bf16⟩
  | .local _ .vmem, ⟨12, _⟩ => ⟨S11x256x256, .bf16⟩
  | .local _ .vmem, ⟨13, _⟩ => ⟨S11x256x256, .bf16⟩
  | .local _ .vmem, ⟨14, _⟩ => ⟨S11x256x256, .bf16⟩
  | .local _ .vmem, ⟨15, _⟩ => ⟨S11x256x256, .bf16⟩
  | .local _ .vmem, ⟨16, _⟩ => ⟨S11x256x256, .bf16⟩
  | .local _ .vmem, ⟨17, _⟩ => ⟨S256x1024, .bf16⟩
  | .local _ .vmem, ⟨18, _⟩ => ⟨S256x1024, .bf16⟩
  | .local _ .vmem, ⟨19, _⟩ => ⟨S8x1024, .f32⟩
  | .local _ .vmem, ⟨20, _⟩ => ⟨S2816x1024, .bf16⟩
  | .local _ .vmem, ⟨21, _⟩ => ⟨S2816x1024, .bf16⟩
  | .local _ .vmem, ⟨22, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v31_2 : Ref sig .tc := ⟨.hbm, 42, rfl⟩
abbrev main_v31_3 : Ref sig .tc := ⟨.hbm, 43, rfl⟩
abbrev main_v31_4 : Ref sig .tc := ⟨.hbm, 44, rfl⟩
abbrev main_v31_5 : Ref sig .tc := ⟨.hbm, 45, rfl⟩
abbrev main_v32 : Ref sig .tc := ⟨.hbm, 46, rfl⟩
abbrev main_v33 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S11x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S11x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S11x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S11x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 93
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S2816x1024, .f32⟩
  | .hbm, ⟨57, _⟩ => ⟨S1024x2816, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S2816x1024, .f32⟩
  | .hbm, ⟨64, _⟩ => ⟨S1024x2816, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S8192x11x256 : Shape := ⟨3, ![8192, 11, 256]⟩
abbrev S11x8192x256 : Shape := ⟨3, ![11, 8192, 256]⟩
abbrev S2816x1024 : Shape := ⟨2, ![2816, 1024]⟩
abbrev S11x1024x256 : Shape := ⟨3, ![11, 1024, 256]⟩
abbrev S1024x1024 : Shape := ⟨2, ![1024, 1024]⟩
abbrev S256x1024 : Shape := ⟨2, ![256, 1024]⟩
abbrev S1x1024x256 : Shape := ⟨3, ![1, 1024, 256]⟩
abbrev S1024x256 : Shape := ⟨2, ![1024, 256]⟩

abbrev nBuf : Space → Nat
  | .hbm => 7
  | .vmem => 5
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x11x256, .f32⟩
  | .hbm, ⟨3, _⟩ => ⟨S11x8192x256, .f32⟩
  | .hbm, ⟨4, _⟩ => ⟨S11x8192x256, .bf16⟩
  | .hbm, ⟨5, _⟩ => ⟨S8192x1024, .bf16⟩
  | .hbm, ⟨6, _⟩ => ⟨S2816x1024, .f32⟩
  | .local _ .vmem, ⟨0, _⟩ => ⟨S11x1024x256, .bf16⟩
  | .local _ .vmem, ⟨1, _⟩ => ⟨S11x1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_mult1 : BitVec 32 :=
  let c0_i32_1 : BitVec 32 := 0#32
  let c256_i32 : BitVec 32 := 256#32
  let v3 : BitVec 32 := Scalar.muli c0_i32_1 c256_i32
  v3
def k0_off1 (c0_i32_1 : BitVec 32) : Fin 2 → Nat :=
  let c256_i32 : BitVec 32 := 256#32
  let v3 : BitVec 32 := Scalar.muli c0_i32_1 c256_i32
  let v4 : BitVec 32 := v3
  let v5 : Index := Scalar.indexCast v4
  let c0 : Index := 0#32
  ![v5.toNat, 0]
def k0_mult2 : BitVec 32 :=
  let c1_i32 : BitVec 32 := 1#32
  let c256_i32_7 : BitVec 32 := 256#32
  let v17 : BitVec 32 := Scalar.muli c1_i32 c256_i32_7
  v17
def k0_mult3 : BitVec 32 :=
  let c2_i32 : BitVec 32 := 2#32
  let c256_i32_15 : BitVec 32 := 256#32
  let v31 : BitVec 32 := Scalar.muli c2_i32 c256_i32_15
  v31
def k0_mult4 : BitVec 32 :=
  let c3_i32 : BitVec 32 := 3#32
  let c256_i32_23 : BitVec 32 := 256#32
  let v45 : BitVec 32 := Scalar.muli c3_i32 c256_i32_23
  v45
def k0_mult5 : BitVec 32 :=
  let c4_i32 : BitVec 32 := 4#32
  let c256_i32_31 : BitVec 32 := 256#32
  let v59 : BitVec 32 := Scalar.muli c4_i32 c256_i32_31
  v59
def k0_mult6 : BitVec 32 :=
  let c5_i32 : BitVec 32 := 5#32
  let c256_i32_39 : BitVec 32 := 256#32
  let v73 : BitVec 32 := Scalar.muli c5_i32 c256_i32_39
  v73
def k0_mult7 : BitVec 32 :=
  let c6_i32 : BitVec 32 := 6#32
  let c256_i32_47 : BitVec 32 := 256#32
  let v87 : BitVec 32 := Scalar.muli c6_i32 c256_i32_47
  v87
def k0_mult8 : BitVec 32 :=
  let c7_i32 : BitVec 32 := 7#32
  let c256_i32_55 : BitVec 32 := 256#32
  let v101 : BitVec 32 := Scalar.muli c7_i32 c256_i32_55
  v101
def k0_mult9 : BitVec 32 :=
  let c8_i32 : BitVec 32 := 8#32
  let c256_i32_63 : BitVec 32 := 256#32
  let v115 : BitVec 32 := Scalar.muli c8_i32 c256_i32_63
  v115
def k0_mult10 : BitVec 32 :=
  let c9_i32 : BitVec 32 := 9#32
  let c256_i32_71 : BitVec 32 := 256#32
  let v129 : BitVec 32 := Scalar.muli c9_i32 c256_i32_71
  v129
def k0_mult11 : BitVec 32 :=
  let c10_i32 : BitVec 32 := 10#32
  let c256_i32_79 : BitVec 32 := 256#32
  let v143 : BitVec 32 := Scalar.muli c10_i32 c256_i32_79
  v143
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S11x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x368x1024 : Shape := ⟨3, ![8, 368, 1024]⟩
abbrev S8x352x1024 : Shape := ⟨3, ![8, 352, 1024]⟩
abbrev S8x1056x1024 : Shape := ⟨3, ![8, 1056, 1024]⟩
abbrev S8x1424x1024 : Shape := ⟨3, ![8, 1424, 1024]⟩
abbrev S1x1024 : Shape := ⟨2, ![1, 1024]⟩
abbrev S11x8192x256 : Shape := ⟨3, ![11, 8192, 256]⟩
abbrev S8x1024 : Shape := ⟨2, ![8, 1024]⟩
abbrev S8x128 : Shape := ⟨2, ![8, 128]⟩
abbrev S512x1024 : Shape := ⟨2, ![512, 1024]⟩
abbrev S11x512x256 : Shape := ⟨3, ![11, 512, 256]⟩
abbrev S24 : Shape := ⟨1, ![24]⟩
abbrev S1 : Shape := ⟨1, ![1]⟩
abbrev S_ : Shape := ⟨0, ![]⟩
abbrev S352x1024 : Shape := ⟨2, ![352, 1024]⟩
abbrev S1x352x1024 : Shape := ⟨3, ![1, 352, 1024]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1x512x256 : Shape := ⟨3, ![1, 512, 256]⟩
abbrev S1x512x1 : Shape := ⟨3, ![1, 512, 1]⟩
abbrev S1x1x1 : Shape := ⟨3, ![1, 1, 1]⟩
abbrev S64x8x1024 : Shape := ⟨3, ![64, 8, 1024]⟩
abbrev S1x1 : Shape := ⟨2, ![1, 1]⟩

abbrev nBuf : Space → Nat
  | .hbm => 31
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x368x1024, .f32⟩
  | .hbm, ⟨6, _⟩ => ⟨S8192x1024, .f32⟩
  | .hbm, ⟨7, _⟩ => ⟨S1024, .f32⟩
  | .hbm, ⟨8, _⟩ => ⟨S2816x1024, .f32⟩
  | .hbm, ⟨9, _⟩ => ⟨S2816x1024, .f32⟩
  | .hbm, ⟨10, _⟩ => ⟨S2816x1024, .bf16⟩
  | .hbm, ⟨11, _⟩ => ⟨S8x352x1024, .bf16⟩
  | .hbm, ⟨12, _⟩ => ⟨S2816x1024, .bf16⟩
  | .hbm, ⟨13, _⟩ => ⟨S8x352x1024, .bf16⟩
  | .hbm, ⟨14, _⟩ => ⟨S2816x1024, .bf16⟩
  | .hbm, ⟨15, _⟩ => ⟨S8x352x1024, .bf16⟩
  | .hbm, ⟨16, _⟩ => ⟨S8x1056x1024, .bf16⟩
  | .hbm, ⟨17, _⟩ => ⟨S8x368x1024, .bf16⟩
  | .hbm, ⟨18, _⟩ => ⟨S8x1424x1024, .bf16⟩
  | .hbm, ⟨19, _⟩ => ⟨S1x1024, .f32⟩
  | .hbm, ⟨20, _⟩ => ⟨S1x1024, .f32⟩
  | .hbm, ⟨21, _⟩ => ⟨S8192x1024, .f32⟩
  | .hbm, ⟨22, _⟩ => ⟨S11x8192x256, .bf16⟩
  | .hbm, ⟨23, _⟩ => ⟨S11x8192x256, .bf16⟩
  | .hbm, ⟨24, _⟩ => ⟨S8192x1024, .bf16⟩
  | .hbm, ⟨25, _⟩ => ⟨S8x1024, .f32⟩
  | .hbm, ⟨26, _⟩ => ⟨S8x128, .f32⟩
  | .hbm, ⟨27, _⟩ => ⟨S1x1, .f32⟩
  | .hbm, ⟨28, _⟩ => ⟨S_, .f32⟩
  | .hbm, ⟨29, _⟩ => ⟨S1x1024, .f32⟩
  | .hbm, ⟨30, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S11x512x256, .bf16⟩
  | .local _ .vmem, ⟨9, _⟩ => ⟨S11x512x256, .bf16⟩
  | .local _ .vmem, ⟨10, _⟩ => ⟨S11x512x256, .bf16⟩
  | .local _ .vmem, ⟨11, _⟩ => ⟨S11x512x256, .bf16⟩
  | .local _ .vmem, ⟨12, _⟩ => ⟨S512x1024, .bf16⟩
  | .local _ .vmem, ⟨13, _⟩ => ⟨S512x1024, .bf16⟩
  | .local _ .vmem, ⟨14, _⟩ => ⟨S8x1024, .f32⟩
  | .local _ .vmem, ⟨15, _⟩ => ⟨S8x128, .f32⟩
  | .local _ .vmem, ⟨16, _⟩ => ⟨S2816x1024, .bf16⟩
  | .local _ .vmem, ⟨17, _⟩ => ⟨S2816x1024, .bf16⟩
  | .local _ .vmem, ⟨18, _⟩ => ⟨S2816x1024, .bf16⟩
  | .local _ .vmem, ⟨19, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev main_v13_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def k0_mult1 : BitVec 32 :=
  let c0_i32_11 : BitVec 32 := 0#32
  let c256_i32 : BitVec 32 := 256#32
  let v24 : BitVec 32 := Scalar.muli c0_i32_11 c256_i32
  v24
def k0_off1 (c0_i32_11 : BitVec 32) : Fin 2 → Nat :=
  let c256_i32 : BitVec 32 := 256#32
  let v24 : BitVec 32 := Scalar.muli c0_i32_11 c256_i32
  let v25 : BitVec 32 := v24
  let v28 : Index := Scalar.indexCast v25
  let c0_14 : Index := 0#32
  ![v28.toNat, 0]
def k0_mult2 : BitVec 32 :=
  let c1_i32 : BitVec 32 := 1#32
  let c256_i32_28 : BitVec 32 := 256#32
  let v56 : BitVec 32 := Scalar.muli c1_i32 c256_i32_28
  v56
def k0_mult3 : BitVec 32 :=
  let c2_i32 : BitVec 32 := 2#32
  let c256_i32_45 : BitVec 32 := 256#32
  let v88 : BitVec 32 := Scalar.muli c2_i32 c256_i32_45
  v88
def k0_mult4 : BitVec 32 :=
  let c3_i32 : BitVec 32 := 3#32
  let c256_i32_62 : BitVec 32 := 256#32
  let v120 : BitVec 32 := Scalar.muli c3_i32 c256_i32_62
  v120
def k0_mult5 : BitVec 32 :=
  let c4_i32 : BitVec 32 := 4#32
  let c256_i32_79 : BitVec 32 := 256#32
  let v152 : BitVec 32 := Scalar.muli c4_i32 c256_i32_79
  v152
def k0_mult6 : BitVec 32 :=
  let c5_i32 : BitVec 32 := 5#32
  let c256_i32_96 : BitVec 32 := 256#32
  let v184 : BitVec 32 := Scalar.muli c5_i32 c256_i32_96
  v184
def k0_mult7 : BitVec 32 :=
  let c6_i32 : BitVec 32 := 6#32
  let c256_i32_113 : BitVec 32 := 256#32
  let v216 : BitVec 32 := Scalar.muli c6_i32 c256_i32_113
  v216
def k0_mult8 : BitVec 32 :=
  let c7_i32 : BitVec 32 := 7#32
  let c256_i32_130 : BitVec 32 := 256#32
  let v248 : BitVec 32 := Scalar.muli c7_i32 c256_i32_130
  v248
def k0_mult9 : BitVec 32 :=
  let c8_i32 : BitVec 32 := 8#32
  let c256_i32_147 : BitVec 32 := 256#32
  let v280 : BitVec 32 := Scalar.muli c8_i32 c256_i32_147
  v280
def k0_mult10 : BitVec 32 :=
  let c9_i32 : BitVec 32 := 9#32
  let c256_i32_164 : BitVec 32 := 256#32
  let v312 : BitVec 32 := Scalar.muli c9_i32 c256_i32_164
  v312
def k0_mult11 : BitVec 32 :=
  let c10_i32 : BitVec 32 := 10#32
  let c256_i32_181 : BitVec 32 := 256#32
  let v344 : BitVec 32 := Scalar.muli c10_i32 c256_i32_181
  v344
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S11x512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S11x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference3Ideal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S8x368x1024 : Shape := ⟨3, ![8, 368, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 109
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x368x1024, .f32⟩
  | .hbm, ⟨6, _⟩ => ⟨S8192x1024, .f32⟩
  | .hbm, ⟨7, _⟩ => ⟨S1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S_, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x1024, .f32⟩
  | .hbm, ⟨37, _⟩ => ⟨S_, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S1x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8192, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1, .f32⟩
  | .hbm, ⟨99, _⟩ => ⟨S_, .f32⟩
  | .hbm, ⟨100, _⟩ => ⟨S8192x1, .f32⟩
  | .hbm, ⟨101, _⟩ => ⟨S8192x1, .f32⟩
  | .hbm, ⟨102, _⟩ => ⟨S_, .f32⟩
  | .hbm, ⟨103, _⟩ => ⟨S8192, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_cst_9 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_cst_11 : Ref sig .tc := ⟨.hbm, 73, rfl⟩
abbrev main_v45 : Ref sig .tc := ⟨.hbm, 74, rfl⟩
abbrev main_cst_12 : Ref sig .tc := ⟨.hbm, 75, rfl⟩
abbrev main_cst_13 : Ref sig .tc := ⟨.hbm, 76, rfl⟩
abbrev main_v46 : Ref sig .tc := ⟨.hbm, 77, rfl⟩
abbrev main_v47 : Ref sig .tc := ⟨.hbm, 78, rfl⟩
abbrev main_cst_14 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_15 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_16 : Ref sig .tc := ⟨.hbm, 90, rfl⟩
abbrev main_v57 : Ref sig .tc := ⟨.hbm, 91, rfl⟩
abbrev main_v58 : Ref sig .tc := ⟨.hbm, 92, rfl⟩
abbrev main_cst_17 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_18 : Ref sig .tc := ⟨.hbm, 99, rfl⟩
abbrev main_v64 : Ref sig .tc := ⟨.hbm, 100, rfl⟩
abbrev main_v65 : Ref sig .tc := ⟨.hbm, 101, rfl⟩
abbrev main_cst_19 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩

abbrev nD : Nat := 1
abbrev τ : Topo := Topo.v7x

variable {F : FTy → Type} [FloatOps F]
-- ==== Kernel4.lean ====
abbrev S8192x1024 : Shape := ⟨2, ![8192, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S8192x512 : Shape := ⟨2, ![8192, 512]⟩
abbrev S512x512 : Shape := ⟨2, ![512, 512]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .bf16⟩
  | .hbm, ⟨3, _⟩ => ⟨S8192x512, .bf16⟩
  | .hbm, ⟨4, _⟩ => ⟨S512x512, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x512 : Shape := ⟨2, ![8192, 512]⟩
abbrev S_ : Shape := ⟨0, ![]⟩
abbrev S512x512 : Shape := ⟨2, ![512, 512]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S512x512, .f32⟩
  | .hbm, ⟨4, _⟩ => ⟨S8192x512, .f32⟩
  | .hbm, ⟨5, _⟩ => ⟨S512x512, .f32⟩
  | .hbm, ⟨6, _⟩ => ⟨S512x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x1536 : Shape := ⟨2, ![8192, 1536]⟩
abbrev S8192x1024 : Shape := ⟨2, ![8192, 1024]⟩
abbrev S1536x1024 : Shape := ⟨2, ![1536, 1024]⟩
abbrev S1024x1536 : Shape := ⟨2, ![1024, 1536]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S8192x1536, .bf16⟩
  | .hbm, ⟨3, _⟩ => ⟨S8192x1024, .bf16⟩
  | .hbm, ⟨4, _⟩ => ⟨S1536x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1024, .bf16⟩
  | .local _ .vmem, ⟨3, _⟩ => ⟨S1024x1024, .bf16⟩
  | .local _ .vmem, ⟨4, _⟩ => ⟨S1536x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x1536 : Shape := ⟨2, ![8192, 1536]⟩
abbrev S8192x1024 : Shape := ⟨2, ![8192, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x1024, .f32⟩
  | .hbm, ⟨2, _⟩ => ⟨S_, .f32⟩
  | .hbm, ⟨3, _⟩ => ⟨S1024x1536, .f32⟩
  | .hbm, ⟨4, _⟩ => ⟨S8192x1536, .f32⟩
  | .hbm, ⟨5, _⟩ => ⟨S1536x1024, .f32⟩
  | .hbm, ⟨6, _⟩ => ⟨S1024x1536, .f32⟩
  | .hbm, ⟨7, _⟩ => ⟨S1536x1024, .f32⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Ffn1.RunA.lean ====
/- The whole body's run at the first point, which copies the weights in: the triple `kernelRun0_A` of `Cert.KernelIdeal`, found by running the
   body's skeleton, with the pieces each output and each weight buffer ends with as its witness. -/
module

public import proofs.«01_k».proof.Proof.Gen.KernelIdeal.Frame.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2212000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) :
    Σ' (L5 : List (View.Piece (Elt F) S256x1024 .f32)), Σ' (L6 : List (View.Piece (Elt F) S11x256x256 .bf16)), Σ' (L7 : List (View.Piece (Elt F) S11x256x256 .bf16)), Σ' (L8 : List (View.Piece (Elt F) S11x256x256 .bf16)), Σ' (L9 : List (View.Piece (Elt F) S256x1024 .bf16)), Σ' (L10 : List (View.Piece (Elt F) S8x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LS1) ∗ (∃ f, arg15.view.loc (c : Thread nD τ) ↦[arg15.view.set]{fullShare} arg15.view.writes (Elt F) f LS2) ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ (∃ W', owes (c : Thread nD τ) 0 W')) -∗ K ⟨⟩))
          ⊢ wp frame (wpE (defs₀ (F := F)) Variants.none c none) Set.univ (cc0_ffn1_bwd i arg1 harg1 arg2 harg2 arg3 harg3 arg4 harg4 arg5 harg5 (Memref.whole main_v30) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, ?_, ?_, ?_, fun W K => ?run⟩
  case run =>
    simp only [cc0_ffn1_bwd_eq_skeleton]; unfold cc0_ffn1_bwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4
    set_option sl_exec.dmaWindow true in
    set_option sl_exec.dmaWindowSet true in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexists _; iexact HS0
    isplitl [HS1]; · iexists _; iexact HS1
    isplitl [HS2]; · iexists _; iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.KernelIdeal.Gen

end
-- ==== Proof.Ffn1.RunB.lean ====
/- The whole body's run at a middle point: the triple `kernelRun0_B` of `Cert.KernelIdeal`, found by running the
   body's skeleton, with the pieces each output and each weight buffer ends with as its witness. -/
module

public import proofs.«01_k».proof.Proof.Ffn1.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken: points 1, 2, … 30: 30 of 32), WITH the
    proof that on whole staging memrefs — the inputs' at their contents, the outputs it reads before covering (10) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) :
    Σ' (L5 : List (View.Piece (Elt F) S256x1024 .f32)), Σ' (L6 : List (View.Piece (Elt F) S11x256x256 .bf16)), Σ' (L7 : List (View.Piece (Elt F) S11x256x256 .bf16)), Σ' (L8 : List (View.Piece (Elt F) S11x256x256 .bf16)), Σ' (L9 : List (View.Piece (Elt F) S256x1024 .bf16)), Σ' (L10 : List (View.Piece (Elt F) S8x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo10 ∗ owns (c : Thread nD τ) arg13 fullShare xs0 ∗ owns (c : Thread nD τ) arg14 fullShare xs1 ∗ owns (c : Thread nD τ) arg15 fullShare xs2 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0 ∗ owns (c : Thread nD τ) arg14 fullShare xs1 ∗ owns (c : Thread nD τ) arg15 fullShare xs2 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ (∃ W', owes (c : Thread nD τ) 0 W')) -∗ K ⟨⟩))
          ⊢ wp frame (wpE (defs₀ (F := F)) Variants.none c none) Set.univ (cc0_ffn1_bwd i arg1 harg1 arg2 harg2 arg3 harg3 arg4 harg4 arg5 harg5 (Memref.whole main_v30) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, [], [], [], fun W K => ?run⟩
  case run =>
    simp only [cc0_ffn1_bwd_eq_skeleton]; unfold cc0_ffn1_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hf10; obtain rfl := harg13.eq_unread hfs0; obtain rfl := harg14.eq_unread hfs1; obtain rfl := harg15.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.KernelIdeal.Gen

end
-- ==== Proof.Ffn1.RunC.lean ====
/- The whole body's run at the last point, which folds the norm gradient: the triple `kernelRun0_C` of `Cert.KernelIdeal`, found by running the
   body's skeleton, with the pieces each output and each weight buffer ends with as its witness. -/
module

public import proofs.«01_k».proof.Proof.Ffn1.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 taken: points 31), WITH the
    proof that on whole staging memrefs — the inputs' at their contents, the outputs it reads before covering (10) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), the other scratch at some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) :
    Σ' (L5 : List (View.Piece (Elt F) S256x1024 .f32)), Σ' (L6 : List (View.Piece (Elt F) S11x256x256 .bf16)), Σ' (L7 : List (View.Piece (Elt F) S11x256x256 .bf16)), Σ' (L8 : List (View.Piece (Elt F) S11x256x256 .bf16)), Σ' (L9 : List (View.Piece (Elt F) S256x1024 .bf16)), Σ' (L10 : List (View.Piece (Elt F) S8x1024 .f32)), Σ' (LS0 : List (View.Piece (Elt F) S2816x1024 .bf16)), Σ' (LS1 : List (View.Piece (Elt F) S2816x1024 .bf16)), { LS2 : List (View.Piece (Elt F) S2816x1024 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo10 ∗ owns (c : Thread nD τ) arg13 fullShare xs0 ∗ owns (c : Thread nD τ) arg14 fullShare xs1 ∗ owns (c : Thread nD τ) arg15 fullShare xs2 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ owns (c : Thread nD τ) arg13 fullShare xs0 ∗ owns (c : Thread nD τ) arg14 fullShare xs1 ∗ owns (c : Thread nD τ) arg15 fullShare xs2 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ hbPt0 c hbM0_0 fh0 ∗ (∃ W', owes (c : Thread nD τ) 0 W')) -∗ K ⟨⟩))
          ⊢ wp frame (wpE (defs₀ (F := F)) Variants.none c none) Set.univ (cc0_ffn1_bwd i arg1 harg1 arg2 harg2 arg3 harg3 arg4 harg4 arg5 harg5 (Memref.whole main_v30) (Memref.isWhole_whole _) arg7 harg7 arg8 harg8 arg9 harg9 arg10 harg10 arg11 harg11 arg12 harg12 arg13 harg13 arg14 harg14 arg15 harg15 cc0_scratch3) K } := by
  refine ⟨?_, ?_, ?_, ?_, ?_, ?_, [], [], [], fun W K => ?run⟩
  case run =>
    simp only [cc0_ffn1_bwd_eq_skeleton]; unfold cc0_ffn1_bwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%f10, %hf10, H10⟩, ⟨%fs0, %hfs0, HS0⟩, ⟨%fs1, %hfs1, HS1⟩, ⟨%fs2, %hfs2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg3.eq_unread hf2; obtain rfl := harg4.eq_unread hf3; obtain rfl := harg5.eq_unread hf4; obtain rfl := harg12.eq_unread hf10; obtain rfl := harg13.eq_unread hfs0; obtain rfl := harg14.eq_unread hfs1; obtain rfl := harg15.eq_unread hfs2
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]
    · iexists _; isplitr; · ipureintro; exact harg13.read_unread _
      iexact HS0
    isplitl [HS1]
    · iexists _; isplitr; · ipureintro; exact harg14.read_unread _
      iexact HS1
    isplitl [HS2]
    · iexists _; isplitr; · ipureintro; exact harg15.read_unread _
      iexact HS2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.KernelIdeal.Gen

end
-- ==== Proof.Ffn1.Outs.lean ====
/- What the body leaves in each output's block and in the weight buffers, case by case. -/
module

public import proofs.«01_k».proof.Proof.Ffn1.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- Case A's pieces for output 5 tile its block (1 store of `S256x1024`, checked by the kernel's evaluation: Lib/Ring.lean `Piece.tiledL`, linear in the pieces, through a loop's `@[irreducible]` trip theorem too), so they cover it. -/
theorem cover0_A_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S256x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).1 S256x1024.size (by sl_kernel_rfl) y

/-- What case A leaves in output 5's staging buffer: its pieces read back over junk. -/
def out0_A_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S256x1024 .f32 :=
  VO0_5.read (Elt F) (VO0_5.writes (Elt F) VO0_5.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).1)

/-- Case A's pieces for output 6 tile its block (11 stores of `S1x256x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S11x256x256.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.1 S1x256x256.size (by sl_kernel_rfl) y

/-- What case A leaves in output 6's staging buffer: its pieces read back over junk. -/
def out0_A_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S11x256x256 .bf16 :=
  VO0_6.read (Elt F) (VO0_6.writes (Elt F) VO0_6.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.1)

/-- Case A's pieces for output 7 tile its block (11 stores of `S1x256x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S11x256x256.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.1 S1x256x256.size (by sl_kernel_rfl) y

/-- What case A leaves in output 7's staging buffer: its pieces read back over junk. -/
def out0_A_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S11x256x256 .bf16 :=
  VO0_7.read (Elt F) (VO0_7.writes (Elt F) VO0_7.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.1)

/-- Case A's pieces for output 8 tile its block (11 stores of `S1x256x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S11x256x256.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.1 S1x256x256.size (by sl_kernel_rfl) y

/-- What case A leaves in output 8's staging buffer: its pieces read back over junk. -/
def out0_A_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S11x256x256 .bf16 :=
  VO0_8.read (Elt F) (VO0_8.writes (Elt F) VO0_8.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.1)

/-- Case A's pieces for output 9 tile its block (1 store of `S256x1024`, checked by the kernel's evaluation: Lib/Ring.lean `Piece.tiledL`, linear in the pieces, through a loop's `@[irreducible]` trip theorem too), so they cover it. -/
theorem cover0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S256x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.1 S256x1024.size (by sl_kernel_rfl) y

/-- What case A leaves in output 9's staging buffer: its pieces read back over junk. -/
def out0_A_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S256x1024 .bf16 :=
  VO0_9.read (Elt F) (VO0_9.writes (Elt F) VO0_9.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.1)

/-- Case A's pieces for output 10 tile its block (2 stores of `S8x1024`, checked by the kernel's evaluation: Lib/Ring.lean `Piece.tiledL`, linear in the pieces, through a loop's `@[irreducible]` trip theorem too), so they cover it. -/
theorem cover0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S8x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.1 S8x1024.size (by sl_kernel_rfl) y

/-- What case A leaves in output 10's staging buffer: its pieces read back over junk. -/
def out0_A_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S8x1024 .f32 :=
  VO0_10.read (Elt F) (VO0_10.writes (Elt F) VO0_10.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.1)

/-- Case A's pieces for scratch `arg13`, which the kernel carries between points, cover it: 8 pieces of `S352x1024` tiling it (Lib/Ring.lean `Piece.tiledL`). -/
theorem scover0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.1 S352x1024.size (by sl_kernel_rfl) y

/-- What case A leaves in scratch `arg13`: its pieces read back over junk. -/
def sout0_A_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S2816x1024 .bf16 :=
  VS0_0.read (Elt F) (VS0_0.writes (Elt F) VS0_0.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.1)

/-- Case A's pieces for scratch `arg14`, which the kernel carries between points, cover it: 8 pieces of `S352x1024` tiling it (Lib/Ring.lean `Piece.tiledL`). -/
theorem scover0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.1 S352x1024.size (by sl_kernel_rfl) y

/-- What case A leaves in scratch `arg14`: its pieces read back over junk. -/
def sout0_A_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S2816x1024 .bf16 :=
  VS0_1.read (Elt F) (VS0_1.writes (Elt F) VS0_1.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.1)

/-- Case A's pieces for scratch `arg15`, which the kernel carries between points, cover it: 8 pieces of `S352x1024` tiling it (Lib/Ring.lean `Piece.tiledL`). -/
theorem scover0_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) (y : S2816x1024.Idx) :
    ∃ pc ∈ (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.2.1, y ∈ pc.1.set :=
  View.cover_of_tiledL (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.2.1 S352x1024.size (by sl_kernel_rfl) y

/-- What case A leaves in scratch `arg15`: its pieces read back over junk. -/
def sout0_A_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (fh0 : HbBuf0 (F := F) c hbM0_0) : Vec F S2816x1024 .bf16 :=
  VS0_2.read (Elt F) (VS0_2.writes (Elt F) VS0_2.junk (kernelRun0_A c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 fh0).2.2.2.2.2.2.2.2.1)

/-- Case B's pieces for output 5 tile its block (1 store of `S256x1024`, checked by the kernel's evaluation: Lib/Ring.lean `Piece.tiledL`, linear in the pieces, through a loop's `@[irreducible]` trip theorem too), so they cover it. -/
theorem cover0_B_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1 S256x1024.size (by sl_kernel_rfl) y

/-- What case B leaves in output 5's staging buffer: its pieces read back over junk. -/
def out0_B_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S256x1024 .f32 :=
  VO0_5.read (Elt F) (VO0_5.writes (Elt F) VO0_5.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1)

/-- Case B's pieces for output 6 tile its block (11 stores of `S1x256x256`, checked by the kernel's evaluation: Lib/Ring.lean `Piece.tiledL`, linear in the pieces, through a loop's `@[irreducible]` trip theorem too), so they cover it. -/
theorem cover0_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1 S1x256x256.size (by sl_kernel_rfl) y

/-- What case B leaves in output 6's staging buffer: its pieces read back over junk. -/
def out0_B_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_6.read (Elt F) (VO0_6.writes (Elt F) VO0_6.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1)

/-- Case B's pieces for output 7 tile its block (11 stores of `S1x256x256`, checked by the kernel's evaluation: Lib/Ring.lean `Piece.tiledL`, linear in the pieces, through a loop's `@[irreducible]` trip theorem too), so they cover it. -/
theorem cover0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1 S1x256x256.size (by sl_kernel_rfl) y

/-- What case B leaves in output 7's staging buffer: its pieces read back over junk. -/
def out0_B_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_7.read (Elt F) (VO0_7.writes (Elt F) VO0_7.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1)

/-- Case B's pieces for output 8 tile its block (11 stores of `S1x256x256`, checked by the kernel's evaluation: Lib/Ring.lean `Piece.tiledL`, linear in the pieces, through a loop's `@[irreducible]` trip theorem too), so they cover it. -/
theorem cover0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1 S1x256x256.size (by sl_kernel_rfl) y

/-- What case B leaves in output 8's staging buffer: its pieces read back over junk. -/
def out0_B_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_8.read (Elt F) (VO0_8.writes (Elt F) VO0_8.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1)

/-- Case B's pieces for output 9 tile its block (1 store of `S256x1024`, checked by the kernel's evaluation: Lib/Ring.lean `Piece.tiledL`, linear in the pieces, through a loop's `@[irreducible]` trip theorem too), so they cover it. -/
theorem cover0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1 S256x1024.size (by sl_kernel_rfl) y

/-- What case B leaves in output 9's staging buffer: its pieces read back over junk. -/
def out0_B_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S256x1024 .bf16 :=
  VO0_9.read (Elt F) (VO0_9.writes (Elt F) VO0_9.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1)

/-- Case B's pieces for output 10 tile its block (1 store of `S8x1024`, checked by the kernel's evaluation: Lib/Ring.lean `Piece.tiledL`, linear in the pieces, through a loop's `@[irreducible]` trip theorem too), so they cover it. -/
theorem cover0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S8x1024.Idx) :
    ∃ pc ∈ (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1, y ∈ pc.1.set :=
  View.cover_of_tiledL (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1 S8x1024.size (by sl_kernel_rfl) y

/-- What case B leaves in output 10's staging buffer: its pieces read back over junk. -/
def out0_B_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S8x1024 .f32 :=
  VO0_10.read (Elt F) (VO0_10.writes (Elt F) VO0_10.junk (kernelRun0_B c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1)

/-- Case B stores nothing into scratch `arg13`: it holds what the point before left. -/
def sout0_B_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs0

/-- Case B stores nothing into scratch `arg14`: it holds what the point before left. -/
def sout0_B_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs1

/-- Case B stores nothing into scratch `arg15`: it holds what the point before left. -/
def sout0_B_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : ¬cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs2

/-- Case C's pieces for output 5 tile its block (1 store of `S256x1024`, checked by the kernel's evaluation: Lib/Ring.lean `Piece.tiledL`, linear in the pieces, through a loop's `@[irreducible]` trip theorem too), so they cover it. -/
theorem cover0_C_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1, y ∈ pc.1.set :=
  View.cover_of_tiledL (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1 S256x1024.size (by sl_kernel_rfl) y

/-- What case C leaves in output 5's staging buffer: its pieces read back over junk. -/
def out0_C_5 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S256x1024 .f32 :=
  VO0_5.read (Elt F) (VO0_5.writes (Elt F) VO0_5.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).1)

/-- Case C's pieces for output 6 tile its block (11 stores of `S1x256x256`, checked by the kernel's evaluation: Lib/Ring.lean `Piece.tiledL`, linear in the pieces, through a loop's `@[irreducible]` trip theorem too), so they cover it. -/
theorem cover0_C_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1, y ∈ pc.1.set :=
  View.cover_of_tiledL (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1 S1x256x256.size (by sl_kernel_rfl) y

/-- What case C leaves in output 6's staging buffer: its pieces read back over junk. -/
def out0_C_6 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_6.read (Elt F) (VO0_6.writes (Elt F) VO0_6.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.1)

/-- Case C's pieces for output 7 tile its block (11 stores of `S1x256x256`, checked by the kernel's evaluation: Lib/Ring.lean `Piece.tiledL`, linear in the pieces, through a loop's `@[irreducible]` trip theorem too), so they cover it. -/
theorem cover0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1, y ∈ pc.1.set :=
  View.cover_of_tiledL (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1 S1x256x256.size (by sl_kernel_rfl) y

/-- What case C leaves in output 7's staging buffer: its pieces read back over junk. -/
def out0_C_7 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_7.read (Elt F) (VO0_7.writes (Elt F) VO0_7.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.1)

/-- Case C's pieces for output 8 tile its block (11 stores of `S1x256x256`, checked by the kernel's evaluation: Lib/Ring.lean `Piece.tiledL`, linear in the pieces, through a loop's `@[irreducible]` trip theorem too), so they cover it. -/
theorem cover0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S11x256x256.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1, y ∈ pc.1.set :=
  View.cover_of_tiledL (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1 S1x256x256.size (by sl_kernel_rfl) y

/-- What case C leaves in output 8's staging buffer: its pieces read back over junk. -/
def out0_C_8 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S11x256x256 .bf16 :=
  VO0_8.read (Elt F) (VO0_8.writes (Elt F) VO0_8.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.1)

/-- Case C's pieces for output 9 tile its block (1 store of `S256x1024`, checked by the kernel's evaluation: Lib/Ring.lean `Piece.tiledL`, linear in the pieces, through a loop's `@[irreducible]` trip theorem too), so they cover it. -/
theorem cover0_C_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S256x1024.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1, y ∈ pc.1.set :=
  View.cover_of_tiledL (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1 S256x1024.size (by sl_kernel_rfl) y

/-- What case C leaves in output 9's staging buffer: its pieces read back over junk. -/
def out0_C_9 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S256x1024 .bf16 :=
  VO0_9.read (Elt F) (VO0_9.writes (Elt F) VO0_9.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.1)

/-- Case C's pieces for output 10 are of SEVERAL sizes (2 stores of `S1x1024`, `S8x1024`): cut into blocks of `![1, 1024]` they tile its block (checked by the kernel's evaluation: Lib/Ring.lean `Piece.tiledBy`), so they cover it. -/
theorem cover0_C_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) (y : S8x1024.Idx) :
    ∃ pc ∈ (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1, y ∈ pc.1.set :=
  View.cover_of_tiledBy (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1 ![1, 1024] (by sl_kernel_rfl) y

/-- What case C leaves in output 10's staging buffer: its pieces read back over junk. -/
def out0_C_10 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S8x1024 .f32 :=
  VO0_10.read (Elt F) (VO0_10.writes (Elt F) VO0_10.junk (kernelRun0_C c i arg1 harg1 arg2 harg2 arg3 harg3 arg4 harg4 arg5 harg5 arg7 harg7 arg8 harg8 arg9 harg9 arg10 harg10 arg11 harg11 arg12 harg12 arg13 harg13 arg14 harg14 arg15 harg15 hc0 hc1 x0 x1 x2 x3 x4 xo10 xs0 xs1 xs2 fh0).2.2.2.2.2.1)

/-- Case C stores nothing into scratch `arg13`: it holds what the point before left. -/
def sout0_C_0 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs0

/-- Case C stores nothing into scratch `arg14`: it holds what the point before left. -/
def sout0_C_1 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs1

/-- Case C stores nothing into scratch `arg15`: it holds what the point before left. -/
def sout0_C_2 (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S11x256x256 .bf16) (harg4 : arg4.IsWhole) (arg5 : Memref sig .tc .vmem S11x256x256 .bf16) (harg5 : arg5.IsWhole) (arg7 : Memref sig .tc .vmem S256x1024 .f32) (harg7 : arg7.IsWhole) (arg8 : Memref sig .tc .vmem S11x256x256 .bf16) (harg8 : arg8.IsWhole) (arg9 : Memref sig .tc .vmem S11x256x256 .bf16) (harg9 : arg9.IsWhole) (arg10 : Memref sig .tc .vmem S11x256x256 .bf16) (harg10 : arg10.IsWhole) (arg11 : Memref sig .tc .vmem S256x1024 .bf16) (harg11 : arg11.IsWhole) (arg12 : Memref sig .tc .vmem S8x1024 .f32) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S2816x1024 .bf16) (harg15 : arg15.IsWhole) (hc0 : ¬cond0_0 i) (hc1 : cond0_1 i)
    (x0 : Vec F S256x1024 .f32) (x1 : Vec F S256x1024 .f32) (x2 : Vec F S1x1024 .f32) (x3 : Vec F S11x256x256 .bf16) (x4 : Vec F S11x256x256 .bf16) (xo10 : Vec F S8x1024 .f32) (xs0 : Vec F S2816x1024 .bf16) (xs1 : Vec F S2816x1024 .bf16) (xs2 : Vec F S2816x1024 .bf16) (fh0 : HbBuf0 (F := F) c hbM0_0) : Vec F S2816x1024 .bf16 := xs2

/-! ## What the outputs hold after each point -/

end Cert.KernelIdeal.Gen

end
-- ==== Proof.Ffn1.After.lean ====
/- What every point leaves in the outputs' blocks and in the weight buffers, by recursion on the point, and the run's data. -/
module

public import proofs.«01_k».proof.Proof.Ffn1.Outs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x1024 .f32 × Vec F S11x256x256 .bf16 × Vec F S11x256x256 .bf16 × Vec F S11x256x256 .bf16 × Vec F S256x1024 .bf16 × Vec F S8x1024 .f32 × Vec F S2816x1024 .bf16 × Vec F S2816x1024 .bf16 × Vec F S2816x1024 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (V m c main_v30))
  | n + 1, hn =>
    if h0 : (n + 1) % 32 = 0 then
      if h1 : (n + 1) % 32 = 31 then
        False.elim (by have hN : n + 1 < 32 := lt_of_lt_of_eq hn (show cfg0.N = 32 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (V m c main_v30))
    else
      if h1 : (n + 1) % 32 = 31 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_C_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30))
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v30))

/-- `outsAt0` at a point of case A: that case's contents. -/
theorem outsAt0_A (c : Dev nD) (t : Fin cfg0.N) (h0 : t.val % 32 = 0) (h1 : ¬t.val % 32 = 31) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) (V m c main_v30)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 32 = 0) (h1 : ¬t.val % 32 = 31) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30)) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 32 = 0) (h1 : t.val % 32 = 31) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v30)) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_v30)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_v30))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2)) ∗ (∃ r, prngReg c r) ∗ iprop(semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0) ∗ iprop(hbPt0 c hbM0_0 (V m c main_v30))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
    | ⟨8, _⟩ => (outsAt0 m c t.val t.isLt).2.2.2.1
    | ⟨9, _⟩ => (outsAt0 m c t.val t.isLt).2.2.2.2.1
    | ⟨10, _⟩ => (outsAt0 m c t.val t.isLt).2.2.2.2.2.1
  Φ t := PhiS m c t.val (Nat.le_of_lt_succ t.isLt)
  q _ := fullShare
  owed _ := 0

end Cert.KernelIdeal.Gen

end
-- ==== Proof.Ffn1.Frame.lean ====
/- The body's obligation at every point, the run of the whole program and its frame. -/
module

public import proofs.«01_k».proof.Proof.Ffn1.After
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]
theorem after0_8 (c : Dev nD) (t : Fin cfg0.N) : (dats m 0 c).after 8 t = (outsAt0 m c t.val t.isLt).2.2.2.1 := by dsimp only [dats]
theorem after0_9 (c : Dev nD) (t : Fin cfg0.N) : (dats m 0 c).after 9 t = (outsAt0 m c t.val t.isLt).2.2.2.2.1 := by dsimp only [dats]
theorem after0_10 (c : Dev nD) (t : Fin cfg0.N) : (dats m 0 c).after 10 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- At a point of case B output 10's current staging buffer holds what the body left at the point before: the point is
    not the first, the buffer was not written back between (`flush0_10`), the window is live and uncut (Lib/Pipeline/Frame.lean
    `Dat.before_out_kept`). -/
theorem before0_10_B (c : Dev nD) (t : Fin cfg0.N) (h0 : ¬t.val % 32 = 0) (h1 : ¬t.val % 32 = 31) (d) :
    (dats m 0 c).before 10 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]
/-- At a point of case C output 10's current staging buffer holds what the body left at the point before: the point is
    not the first, the buffer was not written back between (`flush0_10`), the window is live and uncut (Lib/Pipeline/Frame.lean
    `Dat.before_out_kept`). -/
theorem before0_10_C (c : Dev nD) (t : Fin cfg0.N) (h0 : ¬t.val % 32 = 0) (h1 : t.val % 32 = 31) (d) :
    (dats m 0 c).before 10 t d = (outsAt0 m c (t.val - 1) (Nat.lt_of_le_of_lt (Nat.sub_le _ _) t.isLt)).2.2.2.2.2.1 := by
  have hN : t.val < 32 := lt_of_lt_of_eq t.isLt (show cfg0.N = 32 from N_0)
  rw [Dat.before_out_kept _ 10 rfl t (by omega) (Bool.eq_false_iff.mpr fun h => by have := (flush0_10 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = PhiS m c (t.val + 1) t.isLt from rfl, PhiS_succ,
    after0_0, after0_1, after0_2, after0_3, after0_4, after0_5, after0_6, after0_7, after0_8, after0_9, after0_10]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 32 = 31
    · exfalso; omega
    · by_cases hz : t.val = 0
      · rw [PhiS_castSucc m c t, PhiS_zero m c _ _ hz, PhiD0_eq]
        rw [outsAt0_A m c t h0 h1]
        unfold out0_A_5 out0_A_6 out0_A_7 out0_A_8 out0_A_9 out0_A_10 sout0_A_0 sout0_A_1 sout0_A_2; (try dsimp only)
        iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_A c (grid0.coords t) _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (V m c main_v30)).2.2.2.2.2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexists _; iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hh0]; · iexact Hh0
        isplitl [HW]; · iexact HW
        iintro ⟨H0, H1, H2, H3, H4, ⟨%e5, H5⟩, ⟨%e6, H6⟩, ⟨%e7, H7⟩, ⟨%e8, H8⟩, ⟨%e9, H9⟩, ⟨%e10, H10⟩, ⟨%es0, HS0⟩, ⟨%es1, HS1⟩, ⟨%es2, HS2⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
        isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _)
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            iexact Hq23
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_A_5 c _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
  · by_cases h1 : t.val % 32 = 31
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_10_C m c t h0 h1]
        unfold out0_C_5 out0_C_6 out0_C_7 out0_C_8 out0_C_9 out0_C_10 sout0_C_0 sout0_C_1 sout0_C_2; (try dsimp only)
        iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_C c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _ _ _ (V m c main_v30)).2.2.2.2.2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hh0]; · iexact Hh0
        isplitl [HW]; · iexact HW
        iintro ⟨H0, H1, H2, H3, H4, ⟨%e5, H5⟩, ⟨%e6, H6⟩, ⟨%e7, H7⟩, ⟨%e8, H8⟩, ⟨%e9, H9⟩, ⟨%e10, H10⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
        isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
        · isplitl [HS0 HS1 HS2]
          · isplitl [HS0]; · iexact HS0
            isplitl [HS1]; · iexact HS1
            iexact HS2
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            iexact Hq23
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_C_10 c _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_10_B m c t h0 h1]
        unfold out0_B_5 out0_B_6 out0_B_7 out0_B_8 out0_B_9 out0_B_10 sout0_B_0 sout0_B_1 sout0_B_2; (try dsimp only)
        iintro ⟨⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
        iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _ _ _ _ (V m c main_v30)).2.2.2.2.2.2.2.2.2 W _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [H9]; · iexists _; iexact H9
        isplitl [H10]; · iexact H10
        isplitl [HS0]; · iexact HS0
        isplitl [HS1]; · iexact HS1
        isplitl [HS2]; · iexact HS2
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hh0]; · iexact Hh0
        isplitl [HW]; · iexact HW
        iintro ⟨H0, H1, H2, H3, H4, ⟨%e5, H5⟩, ⟨%e6, H6⟩, ⟨%e7, H7⟩, ⟨%e8, H8⟩, ⟨%e9, H9⟩, ⟨%e10, H10⟩, HS0, HS1, HS2, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
        isplitl [HS0 HS1 HS2 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
        · isplitl [HS0 HS1 HS2]
          · isplitl [HS0]; · iexact HS0
            isplitl [HS1]; · iexact HS1
            iexact HS2
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            iexact Hq23
          iexact Hh0
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_B_5 c _ _ _ _ _ _ _ _ _ _ _ _ _ _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _ _ _ _ _ _ _ _ _ _ _ _ _ _ _)
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _)
        isplitl [H9]
        · unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _)
        unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2]
  · isplitl [HS0]
    · iexists _; iexact HS0
    isplitl [HS1]
    · iexists _; iexact HS1
    iexists _; iexact HS2
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 32 := N_0; omega)

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Ffn1.Same.lean ====
/- The machine-float program and its ideal copy have one text. Here they are shown to be one program for every float
values `F`, so that one run serves both frames: the region body, the procedures and the host program in turn. -/
module

public import proofs.«01_k».proof.Proof.Gen.Kernel
public import proofs.«01_k».proof.Proof.Gen.KernelIdeal

@[expose] public section

set_option maxRecDepth 16384
set_option maxHeartbeats 4000000

noncomputable section

namespace Cert.Ffn1

open Idealize.ShloMosaic

variable {F : FTy → Type} [FloatOps F]

theorem same_bodies : @Cert.Kernel.defs₀ F _ Cert.Kernel.Gen.facts = @Cert.KernelIdeal.defs₀ F _ Cert.KernelIdeal.Gen.facts := by
  unfold Cert.Kernel.defs₀ Cert.KernelIdeal.defs₀
  refine congrArg Defs.onTc ?_
  funext k x
  match k, x with
  | 0, (t, s) => exact rfl

theorem same_defs : @Cert.KernelIdeal.defs F _ Cert.KernelIdeal.Gen.facts = @Cert.Kernel.defs F _ Cert.Kernel.Gen.facts :=
  congrArg (Pipeline.defs (@Cert.KernelIdeal.pcfgs F _)) same_bodies.symm

theorem same_main : @Cert.KernelIdeal.main F _ Cert.KernelIdeal.Gen.facts = @Cert.Kernel.main F _ Cert.Kernel.Gen.facts := rfl

end Cert.Ffn1

end
-- ==== Proof.Ffn1.Weights.lean ====
/- What the three weight buffers hold after every point: the rows copied out of the slab at the first one. -/
module

public import proofs.«01_k».proof.Proof.Ffn1.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ) (c : Dev nD)

/-- A row of a part of the slab, as a place of the slab. -/
theorem emb_row (off : Fin 3 → ℕ) (inb : ∀ a, off a + (![1, 352, 1024] : Fin 3 → ℕ) a ≤ S8x1056x1024.size a)
    (hn : S352x1024.numel = S1x352x1024.numel) (a : Fin 352) (b : Fin 1024) (p : S8x1056x1024.Idx)
    (h0 : (p 0).val = off 0) (h1 : (p 1).val = off 1 + a.val) (h2 : (p 2).val = off 2 + b.val) :
    (Rect.unit (s := S8x1056x1024) off ![1, 352, 1024] inb).emb
      (Shape.reshapeEquiv (s' := S352x1024) hn (ix2 a b)) = p := by
  have e : Shape.reshapeEquiv (s := S1x352x1024) (s' := S352x1024) hn (ix2 a b) = ix3 0 a b := by pointwise
  rw [e]
  funext d
  apply Fin.ext
  fin_cases d
  · show off 0 + 1 * 0 = (p 0).val; omega
  · show off 1 + 1 * a.val = (p 1).val; omega
  · show off 2 + 1 * b.val = (p 2).val; omega

/-- The slab, read at one weight's row: chip `n / 352`'s part, from row `o`. -/
def slabAt (o : ℕ) (ho : o + 352 ≤ 1056) (n : Fin 2816) (k : Fin 1024) : EReal :=
  V m c main_v30 (ix3 (⟨n.val / 352, by omega⟩ : Fin 8) (⟨o + n.val % 352, by omega⟩ : Fin 1056) k)

/-- The gate weights as the slab holds them. -/
def wgS : Vec Ideal S2816x1024 .bf16 := fun i => slabAt m c 0 (by omega) (i 0) (i 1)

set_option maxHeartbeats 4000000 in
theorem wg_A (t : Fin cfg0.N) (h0 : t.val % 32 = 0) (h1 : ¬t.val % 32 = 31) :
    (outsAt0 m c t.val t.isLt).2.2.2.2.2.2.1 = wgS m c := by
  rw [outsAt0_A m c t h0 h1]; frame_out
  funext y
  canon_tiles y h
  all_goals
    unfold wgS slabAt
    idx_vars y
    change V m c main_v30 (Rect.emb _ (Shape.reshapeEquiv _ _)) = V m c main_v30 _
    refine congrArg _ (emb_row _ _ _ _ _ _ ?_ ?_ ?_)
    · change (y 0).val / 352 = _; dsimp only [Matrix.cons_val_zero]; omega
    · change 0 + (y 0).val % 352 = _; dsimp only [Matrix.cons_val_one, Matrix.cons_val_zero]; omega
    · change (y 1).val = _; dsimp only [Matrix.cons_val]; omega

theorem wg_all (n : ℕ) (h : n < cfg0.N) : (outsAt0 m c n h).2.2.2.2.2.2.1 = wgS m c := by
  induction n with
  | zero => exact wg_A m c ⟨0, h⟩ rfl (by show ¬0 % 32 = 31; decide)
  | succ n ih =>
    have hN : n + 1 < 32 := h
    have h0 : ¬(⟨n + 1, h⟩ : Fin cfg0.N).val % 32 = 0 := by show ¬(n + 1) % 32 = 0; omega
    by_cases h1 : (⟨n + 1, h⟩ : Fin cfg0.N).val % 32 = 31
    · have e := outsAt0_C m c ⟨n + 1, h⟩ h0 h1
      refine (congrArg (fun o => o.2.2.2.2.2.2.1) e).trans ?_
      dsimp only; unfold sout0_C_0
      exact ih _
    · have e := outsAt0_B m c ⟨n + 1, h⟩ h0 h1
      refine (congrArg (fun o => o.2.2.2.2.2.2.1) e).trans ?_
      dsimp only; unfold sout0_B_0
      exact ih _

/-- The up weights as the slab holds them. -/
def wuS : Vec Ideal S2816x1024 .bf16 := fun i => slabAt m c 352 (by omega) (i 0) (i 1)

set_option maxHeartbeats 4000000 in
theorem wu_A (t : Fin cfg0.N) (h0 : t.val % 32 = 0) (h1 : ¬t.val % 32 = 31) :
    (outsAt0 m c t.val t.isLt).2.2.2.2.2.2.2.1 = wuS m c := by
  rw [outsAt0_A m c t h0 h1]; frame_out
  funext y
  canon_tiles y h
  all_goals
    unfold wuS slabAt
    idx_vars y
    change V m c main_v30 (Rect.emb _ (Shape.reshapeEquiv _ _)) = V m c main_v30 _
    refine congrArg _ (emb_row _ _ _ _ _ _ ?_ ?_ ?_)
    · change (y 0).val / 352 = _; dsimp only [Matrix.cons_val_zero]; omega
    · change 352 + (y 0).val % 352 = _; dsimp only [Matrix.cons_val_one, Matrix.cons_val_zero]; omega
    · change (y 1).val = _; dsimp only [Matrix.cons_val]; omega

theorem wu_all (n : ℕ) (h : n < cfg0.N) : (outsAt0 m c n h).2.2.2.2.2.2.2.1 = wuS m c := by
  induction n with
  | zero => exact wu_A m c ⟨0, h⟩ rfl (by show ¬0 % 32 = 31; decide)
  | succ n ih =>
    have hN : n + 1 < 32 := h
    have h0 : ¬(⟨n + 1, h⟩ : Fin cfg0.N).val % 32 = 0 := by show ¬(n + 1) % 32 = 0; omega
    by_cases h1 : (⟨n + 1, h⟩ : Fin cfg0.N).val % 32 = 31
    · have e := outsAt0_C m c ⟨n + 1, h⟩ h0 h1
      refine (congrArg (fun o => o.2.2.2.2.2.2.2.1) e).trans ?_
      dsimp only; unfold sout0_C_1
      exact ih _
    · have e := outsAt0_B m c ⟨n + 1, h⟩ h0 h1
      refine (congrArg (fun o => o.2.2.2.2.2.2.2.1) e).trans ?_
      dsimp only; unfold sout0_B_1
      exact ih _

/-- The down weights as the slab holds them. -/
def wdS : Vec Ideal S2816x1024 .bf16 := fun i => slabAt m c 704 (by omega) (i 0) (i 1)

set_option maxHeartbeats 4000000 in
theorem wd_A (t : Fin cfg0.N) (h0 : t.val % 32 = 0) (h1 : ¬t.val % 32 = 31) :
    (outsAt0 m c t.val t.isLt).2.2.2.2.2.2.2.2 = wdS m c := by
  rw [outsAt0_A m c t h0 h1]; frame_out
  funext y
  canon_tiles y h
  all_goals
    unfold wdS slabAt
    idx_vars y
    change V m c main_v30 (Rect.emb _ (Shape.reshapeEquiv _ _)) = V m c main_v30 _
    refine congrArg _ (emb_row _ _ _ _ _ _ ?_ ?_ ?_)
    · change (y 0).val / 352 = _; dsimp only [Matrix.cons_val_zero]; omega
    · change 704 + (y 0).val % 352 = _; dsimp only [Matrix.cons_val_one, Matrix.cons_val_zero]; omega
    · change (y 1).val = _; dsimp only [Matrix.cons_val]; omega

theorem wd_all (n : ℕ) (h : n < cfg0.N) : (outsAt0 m c n h).2.2.2.2.2.2.2.2 = wdS m c := by
  induction n with
  | zero => exact wd_A m c ⟨0, h⟩ rfl (by show ¬0 % 32 = 31; decide)
  | succ n ih =>
    have hN : n + 1 < 32 := h
    have h0 : ¬(⟨n + 1, h⟩ : Fin cfg0.N).val % 32 = 0 := by show ¬(n + 1) % 32 = 0; omega
    by_cases h1 : (⟨n + 1, h⟩ : Fin cfg0.N).val % 32 = 31
    · have e := outsAt0_C m c ⟨n + 1, h⟩ h0 h1
      refine (congrArg (fun o => o.2.2.2.2.2.2.2.2) e).trans ?_
      dsimp only; unfold sout0_C_2
      exact ih _
    · have e := outsAt0_B m c ⟨n + 1, h⟩ h0 h1
      refine (congrArg (fun o => o.2.2.2.2.2.2.2.2) e).trans ?_
      dsimp only; unfold sout0_B_2
      exact ih _

end Cert.KernelIdeal.Value
-- ==== Proof.Ffn1.Chain.lean ====
/- The gradient at the norm's output that one row block leaves, read at one place: eleven column chunks, two products each. -/
module

public import proofs.«01_k».proof.Proof.Gen.KernelIdeal.Skeleton
public import Idealize.ShloMosaic.Lib.Pointwise

@[expose] public section

set_option maxRecDepth 16384

noncomputable section

open Idealize.ShloMosaic Idealize.ShloMosaic.TcCoe Idealize.SL.Sem

namespace Cert.KernelIdeal.Value
open Cert.KernelIdeal Cert.KernelIdeal.Gen

/-- The logistic of one gate value, as the kernel computes it. -/
def sg (g : EReal) : EReal := Ideal.logistic g

/-- The gradient at one hidden value: the halved incoming row against one row of the down weights. -/
def dhid (D : Fin 1024 → EReal) (W : Fin 1024 → EReal) : EReal := ∑ k, (Ideal.ofBits .f32 0x3F000000#32 * D k) * W k

/-- The gradient at one gate value. -/
def dgate (g u h : EReal) : EReal := h * u * (sg g * (1 + g * (1 - sg g)))

/-- The gradient at one up value. -/
def dup (g h : EReal) : EReal := h * (g * sg g)

variable (D : Vec Ideal S256x1024 .f32) (G U : Vec Ideal S11x256x256 .bf16) (WG WU WD : Vec Ideal S2816x1024 .bf16)

/-- The gate half of one chunk at one place. -/
def gpart (c : Fin 11) (i : Fin 256) (k : Fin 1024) : EReal :=
  ∑ j : Fin 256, dgate (G (ix3 c i j)) (U (ix3 c i j)) (dhid (fun l => D (ix2 i l)) fun l => WD (ix2 ⟨c.val * 256 + j.val, by omega⟩ l))
    * WG (ix2 ⟨c.val * 256 + j.val, by omega⟩ k)

/-- The up half of one chunk at one place. -/
def upart (c : Fin 11) (i : Fin 256) (k : Fin 1024) : EReal :=
  ∑ j : Fin 256, dup (G (ix3 c i j)) (dhid (fun l => D (ix2 i l)) fun l => WD (ix2 ⟨c.val * 256 + j.val, by omega⟩ l))
    * WU (ix2 ⟨c.val * 256 + j.val, by omega⟩ k)

/-- A sum of eleven terms, written out. -/
theorem sum_eleven (f : Fin 11 → EReal) :
    ∑ c, f c = f 0 + f 1 + f 2 + f 3 + f 4 + f 5 + f 6 + f 7 + f 8 + f 9 + f 10 := by
  simp only [Fin.sum_univ_succ, Fin.sum_univ_zero, add_zero, ← add_assoc]; rfl

set_option maxHeartbeats 4000000 in
theorem dn_chain (i : Fin 256) (k : Fin 1024) :
    k0_pay114 (F := Ideal) (k0_pay113 (k0_pay104 (k0_pay94 (k0_pay93 (k0_pay84 (k0_pay74 (k0_pay64 (k0_pay62 (k0_pay53 (k0_pay43 (k0_pay34 (k0_pay32 (k0_pay22 k0_pay5 (k0_pay13 (k0_pay6 (View.ld (Val := Elt Ideal) (S := S11x256x256) (e' := EltTy.bf16) G (Rect.unit ![0, 0, 0] ![1, 256, 256] inb_S11x256x256_S1x256x256_0_0_0))) (k0_pay7 (View.ld (Val := Elt Ideal) (S := S11x256x256) (e' := EltTy.bf16) U (Rect.unit ![0, 0, 0] ![1, 256, 256] inb_S11x256x256_S1x256x256_0_0_0))) (k0_pay8 (View.ld (Val := Elt Ideal) (S := S11x256x256) (e' := EltTy.bf16) G (Rect.unit ![0, 0, 0] ![1, 256, 256] inb_S11x256x256_S1x256x256_0_0_0))) (k0_pay10 (k0_pay4 D) (View.ld (Val := Elt Ideal) (S := S2816x1024) (e' := EltTy.bf16) WD (Rect.unit ![0, 0] ![256, 1024] inb_S2816x1024_S256x1024_0_0)))) (View.ld (Val := Elt Ideal) (S := S2816x1024) (e' := EltTy.bf16) WG (Rect.unit ![0, 0] ![256, 1024] inb_S2816x1024_S256x1024_0_0)) (k0_pay12 (View.ld (Val := Elt Ideal) (S := S11x256x256) (e' := EltTy.bf16) G (Rect.unit ![0, 0, 0] ![1, 256, 256] inb_S11x256x256_S1x256x256_0_0_0)) (k0_pay4 D) (View.ld (Val := Elt Ideal) (S := S2816x1024) (e' := EltTy.bf16) WD (Rect.unit ![0, 0] ![256, 1024] inb_S2816x1024_S256x1024_0_0))) (View.ld (Val := Elt Ideal) (S := S2816x1024) (e' := EltTy.bf16) WU (Rect.unit ![0, 0] ![256, 1024] inb_S2816x1024_S256x1024_0_0))) (k0_pay21 (k0_pay14 (View.ld (Val := Elt Ideal) (S := S11x256x256) (e' := EltTy.bf16) G (Rect.unit ![1, 0, 0] ![1, 256, 256] inb_S11x256x256_S1x256x256_1_0_0))) (k0_pay15 (View.ld (Val := Elt Ideal) (S := S11x256x256) (e' := EltTy.bf16) U (Rect.unit ![1, 0, 0] ![1, 256, 256] inb_S11x256x256_S1x256x256_1_0_0))) (k0_pay16 (View.ld (Val := Elt Ideal) (S := S11x256x256) (e' := EltTy.bf16) G (Rect.unit ![1, 0, 0] ![1, 256, 256] inb_S11x256x256_S1x256x256_1_0_0))) (k0_pay18 (k0_pay4 D) (View.ld (Val := Elt Ideal) (S := S2816x1024) (e' := EltTy.bf16) WD (Rect.unit ![256, 0] ![256, 1024] inb_S2816x1024_S256x1024_256_0)))) (View.ld (Val := Elt Ideal) (S := S2816x1024) (e' := EltTy.bf16) WG (Rect.unit ![256, 0] ![256, 1024] inb_S2816x1024_S256x1024_256_0))) (k0_pay33 (k0_pay20 (View.ld (Val := Elt Ideal) (S := S11x256x256) (e' := EltTy.bf16) G (Rect.unit ![1, 0, 0] ![1, 256, 256] inb_S11x256x256_S1x256x256_1_0_0)) (k0_pay4 D) (View.ld (Val := Elt Ideal) (S := S2816x1024) (e' := EltTy.bf16) WD (Rect.unit ![256, 0] ![256, 1024] inb_S2816x1024_S256x1024_256_0))) (View.ld (Val := Elt Ideal) (S := S2816x1024) (e' := EltTy.bf16) WU (Rect.unit ![256, 0] ![256, 1024] inb_S2816x1024_S256x1024_256_0)))) (k0_pay31 (k0_pay23 (View.ld (Val := Elt Ideal) (S := S11x256x256) (e' := EltTy.bf16) G (Rect.unit ![2, 0, 0] ![1, 256, 256] inb_S11x256x256_S1x256x256_2_0_0))) (k0_pay24 (View.ld (Val := Elt Ideal) (S := S11x256x256) (e' := EltTy.bf16) U (Rect.unit ![2, 0, 0] ![1, 256, 256] inb_S11x256x256_S1x256x256_2_0_0))) (k0_pay25 (View.ld (Val := Elt Ideal) (S := S11x256x256) (e' := EltTy.bf16) G (Rect.unit ![2, 0, 0] ![1, 256, 256] inb_S11x256x256_S1x256x256_2_0_0))) (k0_pay27 (k0_pay4 D)) (View.ld (Val := Elt Ideal) (S := S2816x1024) (e' := EltTy.bf16) WD (Rect.unit ![512, 0] ![256, 1024] inb_S2816x1024_S256x1024_512_0))) (View.ld (Val := Elt Ideal) (S := S2816x1024) (e' := EltTy.bf16) WG (Rect.unit ![512, 0] ![256, 1024] inb_S2816x1024_S256x1024_512_0)) (k0_pay30 (k0_pay26 (View.ld (Val := Elt Ideal) (S := S11x256x256) (e' := EltTy.bf16) G (Rect.unit ![2, 0, 0] ![1, 256, 256] inb_S11x256x256_S1x256x256_2_0_0))) (k0_pay27 (k0_pay4 D)) (View.ld (Val := Elt Ideal) (S := S2816x1024) (e' := EltTy.bf16) WD (Rect.unit ![512, 0] ![256, 1024] inb_S2816x1024_S256x1024_512_0))) (View.ld (Val := Elt Ideal) (S := S2816x1024) (e' := EltTy.bf16) WU (Rect.unit ![512, 0] ![256, 1024] inb_S2816x1024_S256x1024_512_0))) (k0_pay42 (View.ld (Val := Elt Ideal) (S := S11x256x256) (e' := EltTy.bf16) G (Rect.unit ![3, 0, 0] ![1, 256, 256] inb_S11x256x256_S1x256x256_3_0_0)) (View.ld (Val := Elt Ideal) (S := S11x256x256) (e' := EltTy.bf16) U (Rect.unit ![3, 0, 0] ![1, 256, 256] inb_S11x256x256_S1x256x256_3_0_0)) (k0_pay4 D) (View.ld (Val := Elt Ideal) (S := S2816x1024) (e' := EltTy.bf16) WD (Rect.unit ![768, 0] ![256, 1024] inb_S2816x1024_S256x1024_768_0))) (View.ld (Val := Elt Ideal) (S := S2816x1024) (e' := EltTy.bf16) WG (Rect.unit ![768, 0] ![256, 1024] inb_S2816x1024_S256x1024_768_0)) (k0_pay41 (View.ld (Val := Elt Ideal) (S := S11x256x256) (e' := EltTy.bf16) G (Rect.unit ![3, 0, 0] ![1, 256, 256] inb_S11x256x256_S1x256x256_3_0_0)) (k0_pay4 D) (View.ld (Val := Elt Ideal) (S := S2816x1024) (e' := EltTy.bf16) WD (Rect.unit ![768, 0] ![256, 1024] inb_S2816x1024_S256x1024_768_0))) (View.ld (Val := Elt Ideal) (S := S2816x1024) (e' := EltTy.bf16) WU (Rect.unit ![768, 0] ![256, 1024] inb_S2816x1024_S256x1024_768_0))) (k0_pay52 (k0_pay44 (View.ld (Val := Elt Ideal) (S := S11x256x256) (e' := EltTy.bf16) G (Rect.unit ![4, 0, 0] ![1, 256, 256] inb_S11x256x256_S1x256x256_4_0_0))) (k0_pay45 (View.ld (Val := Elt Ideal) (S := S11x256x256) (e' := EltTy.bf16) U (Rect.unit ![4, 0, 0] ![1, 256, 256] inb_S11x256x256_S1x256x256_4_0_0))) (k0_pay46 (View.ld (Val := Elt Ideal) (S := S11x256x256) (e' := EltTy.bf16) G (Rect.unit ![4, 0, 0] ![1, 256, 256] inb_S11x256x256_S1x256x256_4_0_0))) (k0_pay48 (k0_pay4 D) (View.ld (Val := Elt Ideal) (S := S2816x1024) (e' := EltTy.bf16) WD (Rect.unit ![1024, 0] ![256, 1024] inb_S2816x1024_S256x1024_1024_0)))) (View.ld (Val := Elt Ideal) (S := S2816x1024) (e' := EltTy.bf16) WG (Rect.unit ![1024, 0] ![256, 1024] inb_S2816x1024_S256x1024_1024_0))) (k0_pay63 (k0_pay51 (k0_pay50 (View.ld (Val := Elt Ideal) (S := S11x256x256) (e' := EltTy.bf16) G (Rect.unit ![4, 0, 0] ![1, 256, 256] inb_S11x256x256_S1x256x256_4_0_0)) (k0_pay4 D) (View.ld (Val := Elt Ideal) (S := S2816x1024) (e' := EltTy.bf16) WD (Rect.unit ![1024, 0] ![256, 1024] inb_S2816x1024_S256x1024_1024_0))))) (View.ld (Val := Elt Ideal) (S := S2816x1024) (e' := EltTy.bf16) WU (Rect.unit ![1024, 0] ![256, 1024] inb_S2816x1024_S256x1024_1024_0))) (k0_pay61 (k0_pay54 (View.ld (Val := Elt Ideal) (S := S11x256x256) (e' := EltTy.bf16) G (Rect.unit ![5, 0, 0] ![1, 256, 256] inb_S11x256x256_S1x256x256_5_0_0))) (k0_pay55 (View.ld (Val := Elt Ideal) (S := S11x256x256) (e' := EltTy.bf16) U (Rect.unit ![5, 0, 0] ![1, 256, 256] inb_S11x256x256_S1x256x256_5_0_0))) (k0_pay56 (View.ld (Val := Elt Ideal) (S := S11x256x256) (e' := EltTy.bf16) G (Rect.unit ![5, 0, 0] ![1, 256, 256] inb_S11x256x256_S1x256x256_5_0_0))) (k0_pay4 D) (View.ld (Val := Elt Ideal) (S := S2816x1024) (e' := EltTy.bf16) WD (Rect.unit ![1280, 0] ![256, 1024] inb_S2816x1024_S256x1024_1280_0))) (View.ld (Val := Elt Ideal) (S := S2816x1024) (e' := EltTy.bf16) WG (Rect.unit ![1280, 0] ![256, 1024] inb_S2816x1024_S256x1024_1280_0)) (k0_pay60 (k0_pay57 (View.ld (Val := Elt Ideal) (S := S11x256x256) (e' := EltTy.bf16) G (Rect.unit ![5, 0, 0] ![1, 256, 256] inb_S11x256x256_S1x256x256_5_0_0))) (k0_pay4 D) (View.ld (Val := Elt Ideal) (S := S2816x1024) (e' := EltTy.bf16) WD (Rect.unit ![1280, 0] ![256, 1024] inb_S2816x1024_S256x1024_1280_0))) (View.ld (Val := Elt Ideal) (S := S2816x1024) (e' := EltTy.bf16) WU (Rect.unit ![1280, 0] ![256, 1024] inb_S2816x1024_S256x1024_1280_0))) (k0_pay73 (k0_pay72 (View.ld (Val := Elt Ideal) (S := S11x256x256) (e' := EltTy.bf16) G (Rect.unit ![6, 0, 0] ![1, 256, 256] inb_S11x256x256_S1x256x256_6_0_0)) (View.ld (Val := Elt Ideal) (S := S11x256x256) (e' := EltTy.bf16) U (Rect.unit ![6, 0, 0] ![1, 256, 256] inb_S11x256x256_S1x256x256_6_0_0)) (k0_pay4 D) (View.ld (Val := Elt Ideal) (S := S2816x1024) (e' := EltTy.bf16) WD (Rect.unit ![1536, 0] ![256, 1024] inb_S2816x1024_S256x1024_1536_0)))) (View.ld (Val := Elt Ideal) (S := S2816x1024) (e' := EltTy.bf16) WG (Rect.unit ![1536, 0] ![256, 1024] inb_S2816x1024_S256x1024_1536_0)) (k0_pay71 (View.ld (Val := Elt Ideal) (S := S11x256x256) (e' := EltTy.bf16) G (Rect.unit ![6, 0, 0] ![1, 256, 256] inb_S11x256x256_S1x256x256_6_0_0)) (k0_pay4 D) (View.ld (Val := Elt Ideal) (S := S2816x1024) (e' := EltTy.bf16) WD (Rect.unit ![1536, 0] ![256, 1024] inb_S2816x1024_S256x1024_1536_0))) (View.ld (Val := Elt Ideal) (S := S2816x1024) (e' := EltTy.bf16) WU (Rect.unit ![1536, 0] ![256, 1024] inb_S2816x1024_S256x1024_1536_0))) (k0_pay83 (k0_pay75 (View.ld (Val := Elt Ideal) (S := S11x256x256) (e' := EltTy.bf16) G (Rect.unit ![7, 0, 0] ![1, 256, 256] inb_S11x256x256_S1x256x256_7_0_0))) (k0_pay76 (View.ld (Val := Elt Ideal) (S := S11x256x256) (e' := EltTy.bf16) U (Rect.unit ![7, 0, 0] ![1, 256, 256] inb_S11x256x256_S1x256x256_7_0_0))) (k0_pay77 (View.ld (Val := Elt Ideal) (S := S11x256x256) (e' := EltTy.bf16) G (Rect.unit ![7, 0, 0] ![1, 256, 256] inb_S11x256x256_S1x256x256_7_0_0))) (k0_pay79 (k0_pay4 D) (View.ld (Val := Elt Ideal) (S := S2816x1024) (e' := EltTy.bf16) WD (Rect.unit ![1792, 0] ![256, 1024] inb_S2816x1024_S256x1024_1792_0)))) (View.ld (Val := Elt Ideal) (S := S2816x1024) (e' := EltTy.bf16) WG (Rect.unit ![1792, 0] ![256, 1024] inb_S2816x1024_S256x1024_1792_0))) (k0_pay82 (k0_pay81 (View.ld (Val := Elt Ideal) (S := S11x256x256) (e' := EltTy.bf16) G (Rect.unit ![7, 0, 0] ![1, 256, 256] inb_S11x256x256_S1x256x256_7_0_0)) (k0_pay4 D) (View.ld (Val := Elt Ideal) (S := S2816x1024) (e' := EltTy.bf16) WD (Rect.unit ![1792, 0] ![256, 1024] inb_S2816x1024_S256x1024_1792_0)))) (View.ld (Val := Elt Ideal) (S := S2816x1024) (e' := EltTy.bf16) WU (Rect.unit ![1792, 0] ![256, 1024] inb_S2816x1024_S256x1024_1792_0))) (k0_pay92 (k0_pay85 (View.ld (Val := Elt Ideal) (S := S11x256x256) (e' := EltTy.bf16) G (Rect.unit ![8, 0, 0] ![1, 256, 256] inb_S11x256x256_S1x256x256_8_0_0))) (k0_pay86 (View.ld (Val := Elt Ideal) (S := S11x256x256) (e' := EltTy.bf16) U (Rect.unit ![8, 0, 0] ![1, 256, 256] inb_S11x256x256_S1x256x256_8_0_0))) (k0_pay87 (View.ld (Val := Elt Ideal) (S := S11x256x256) (e' := EltTy.bf16) G (Rect.unit ![8, 0, 0] ![1, 256, 256] inb_S11x256x256_S1x256x256_8_0_0))) (k0_pay4 D) (View.ld (Val := Elt Ideal) (S := S2816x1024) (e' := EltTy.bf16) WD (Rect.unit ![2048, 0] ![256, 1024] inb_S2816x1024_S256x1024_2048_0))) (View.ld (Val := Elt Ideal) (S := S2816x1024) (e' := EltTy.bf16) WG (Rect.unit ![2048, 0] ![256, 1024] inb_S2816x1024_S256x1024_2048_0)) (k0_pay91 (k0_pay88 (View.ld (Val := Elt Ideal) (S := S11x256x256) (e' := EltTy.bf16) G (Rect.unit ![8, 0, 0] ![1, 256, 256] inb_S11x256x256_S1x256x256_8_0_0))) (k0_pay4 D) (View.ld (Val := Elt Ideal) (S := S2816x1024) (e' := EltTy.bf16) WD (Rect.unit ![2048, 0] ![256, 1024] inb_S2816x1024_S256x1024_2048_0))) (View.ld (Val := Elt Ideal) (S := S2816x1024) (e' := EltTy.bf16) WU (Rect.unit ![2048, 0] ![256, 1024] inb_S2816x1024_S256x1024_2048_0))) (k0_pay103 (k0_pay102 (View.ld (Val := Elt Ideal) (S := S11x256x256) (e' := EltTy.bf16) G (Rect.unit ![9, 0, 0] ![1, 256, 256] inb_S11x256x256_S1x256x256_9_0_0)) (View.ld (Val := Elt Ideal) (S := S11x256x256) (e' := EltTy.bf16) U (Rect.unit ![9, 0, 0] ![1, 256, 256] inb_S11x256x256_S1x256x256_9_0_0)) (k0_pay4 D) (View.ld (Val := Elt Ideal) (S := S2816x1024) (e' := EltTy.bf16) WD (Rect.unit ![2304, 0] ![256, 1024] inb_S2816x1024_S256x1024_2304_0)))) (View.ld (Val := Elt Ideal) (S := S2816x1024) (e' := EltTy.bf16) WG (Rect.unit ![2304, 0] ![256, 1024] inb_S2816x1024_S256x1024_2304_0)) (k0_pay101 (View.ld (Val := Elt Ideal) (S := S11x256x256) (e' := EltTy.bf16) G (Rect.unit ![9, 0, 0] ![1, 256, 256] inb_S11x256x256_S1x256x256_9_0_0)) (k0_pay4 D) (View.ld (Val := Elt Ideal) (S := S2816x1024) (e' := EltTy.bf16) WD (Rect.unit ![2304, 0] ![256, 1024] inb_S2816x1024_S256x1024_2304_0))) (View.ld (Val := Elt Ideal) (S := S2816x1024) (e' := EltTy.bf16) WU (Rect.unit ![2304, 0] ![256, 1024] inb_S2816x1024_S256x1024_2304_0)) (k0_pay112 (k0_pay105 (View.ld (Val := Elt Ideal) (S := S11x256x256) (e' := EltTy.bf16) G (Rect.unit ![10, 0, 0] ![1, 256, 256] inb_S11x256x256_S1x256x256_10_0_0))) (k0_pay106 (View.ld (Val := Elt Ideal) (S := S11x256x256) (e' := EltTy.bf16) U (Rect.unit ![10, 0, 0] ![1, 256, 256] inb_S11x256x256_S1x256x256_10_0_0))) (k0_pay107 (View.ld (Val := Elt Ideal) (S := S11x256x256) (e' := EltTy.bf16) G (Rect.unit ![10, 0, 0] ![1, 256, 256] inb_S11x256x256_S1x256x256_10_0_0))) (k0_pay109 (k0_pay4 D) (View.ld (Val := Elt Ideal) (S := S2816x1024) (e' := EltTy.bf16) WD (Rect.unit ![2560, 0] ![256, 1024] inb_S2816x1024_S256x1024_2560_0)))) (View.ld (Val := Elt Ideal) (S := S2816x1024) (e' := EltTy.bf16) WG (Rect.unit ![2560, 0] ![256, 1024] inb_S2816x1024_S256x1024_2560_0))) (k0_pay111 (k0_pay108 (View.ld (Val := Elt Ideal) (S := S11x256x256) (e' := EltTy.bf16) G (Rect.unit ![10, 0, 0] ![1, 256, 256] inb_S11x256x256_S1x256x256_10_0_0))) (k0_pay109 (k0_pay4 D) (View.ld (Val := Elt Ideal) (S := S2816x1024) (e' := EltTy.bf16) WD (Rect.unit ![2560, 0] ![256, 1024] inb_S2816x1024_S256x1024_2560_0)))) (View.ld (Val := Elt Ideal) (S := S2816x1024) (e' := EltTy.bf16) WU (Rect.unit ![2560, 0] ![256, 1024] inb_S2816x1024_S256x1024_2560_0)) (ix2 i k)
      = ∑ c : Fin 11, (gpart D G U WG WD c i k + upart D G WU WD c i k) := by
  pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114]
  rw [sum_eleven]
  simp only [← add_assoc]
  rfl

/-- What the eleven chunks leave at one place. -/
def dnat (i : Fin 256) (k : Fin 1024) : EReal := ∑ c : Fin 11, (gpart D G U WG WD c i k + upart D G WU WD c i k)

/-- One over the root mean square of a row. -/
def rs (x : Fin 1024 → EReal) : EReal :=
  Ideal.rsqrt (Ideal.div (∑ k, x k * x k) (Ideal.ofBits .f32 0x44800000#32) + Ideal.ofBits .f32 0x358637BD#32)

/-- The gradient of the norm at one place, added to the incoming gradient. -/
def dxat (d : EReal) (x : Fin 1024 → EReal) (g dn : Fin 1024 → EReal) (k : Fin 1024) : EReal :=
  d + rs x * (dn k * g k - x k * rs x * Ideal.div (∑ l, dn l * g l * (x l * rs x)) (Ideal.ofBits .f32 0x44800000#32))

variable (X : Vec Ideal S256x1024 .f32) (N : Vec Ideal S1x1024 .f32) (dn : Fin 256 → Fin 1024 → EReal)
  (v487 : FVec Ideal S256x1024 .f32) (v488 : Vec Ideal S1x256x256 .bf16) (v490 : Vec Ideal S256x1024 .bf16)

theorem dx_of_dn (h : ∀ i k, k0_pay114 (F := Ideal) v487 v488 v490 (ix2 i k) = dn i k) (i : Fin 256) (k : Fin 1024) :
    k0_pay1 (F := Ideal) D (k0_pay118 v487 v488 v490 X N) (k0_pay119 X) (ix2 i k)
      = dxat (D (ix2 i k)) (fun k => X (ix2 i k)) (fun k => N (ix2 0 k)) (dn i) k := by
  pointwise [k0_pay1, k0_pay118, k0_pay119, k0_pay115, k0_pay116, h]
  rfl

theorem dgain_of_dn (A : Vec Ideal S8x1024 .f32)
    (h : ∀ i k, k0_pay114 (F := Ideal) v487 v488 v490 (ix2 i k) = dn i k) (p : Fin 8) (k : Fin 1024) :
    k0_pay117 (F := Ideal) v487 v488 v490 X A (ix2 p k)
      = A (ix2 p k) + ∑ q : Fin 32, dn ⟨q.val * 8 + p.val, by omega⟩ k
          * (X (ix2 ⟨q.val * 8 + p.val, by omega⟩ k) * rs fun l => X (ix2 ⟨q.val * 8 + p.val, by omega⟩ l)) := by
  pointwise [k0_pay117, k0_pay115, k0_pay116, h]
  rfl

theorem fold_row (A : Vec Ideal S8x1024 .f32) (k : Fin 1024) : k0_pay2 (F := Ideal) A (ix2 0 k) = ∑ p : Fin 8, A (ix2 p k) := by
  pointwise [k0_pay2]

theorem zero_row (p : Fin 8) (k : Fin 1024) : (k0_pay3 (F := Ideal)) (ix2 p k) = 0 := by
  pointwise [k0_pay3]

end Cert.KernelIdeal.Value
-- ==== Proof.Ffn1.Point.lean ====
/- What every point leaves in the two results kept: the block of the input gradient, and the running sums of the gain gradient. -/
module

public import proofs.«01_k».proof.Proof.Ffn1.Weights
public import proofs.«01_k».proof.Proof.Ffn1.Chain

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ) (c : Dev nD)

/-- What a row block's point leaves of the gradient at its input. -/
def dxB (t : Fin cfg0.N) (i : Fin 256) (k : Fin 1024) : EReal :=
  dxat (iblk m c 0 t (ix2 i k)) (fun k => iblk m c 1 t (ix2 i k)) (fun k => iblk m c 2 t (ix2 0 k))
    (dnat (iblk m c 0 t) (iblk m c 3 t) (iblk m c 4 t) (wgS m c) (wuS m c) (wdS m c) i) k

/-- What a row block's point adds to the gradient of the norm's gain, in one of the eight partial sums. -/
def dgB (t : Fin cfg0.N) (p : Fin 8) (k : Fin 1024) : EReal :=
  ∑ q : Fin 32, dnat (iblk m c 0 t) (iblk m c 3 t) (iblk m c 4 t) (wgS m c) (wuS m c) (wdS m c) ⟨q.val * 8 + p.val, by omega⟩ k
    * ((show EReal from iblk m c 1 t (ix2 ⟨q.val * 8 + p.val, by omega⟩ k)) * rs fun l => iblk m c 1 t (ix2 ⟨q.val * 8 + p.val, by omega⟩ l))

theorem out5_B (t : Fin cfg0.N) (h0 : ¬t.val % 32 = 0) (h1 : ¬t.val % 32 = 31) (i : Fin 256) (k : Fin 1024) :
    (outsAt0 m c t.val t.isLt).1 (ix2 i k) = dxB m c t i k := by
  rw [outsAt0_B m c t h0 h1]; frame_out
  simp (decide := true) only [↓View.readCov_skip, View.readCov_cons_toLoadRect, read_unread_whole, wg_all, wu_all, wd_all]
  exact dx_of_dn _ _ _ _ _ _ _ (dn_chain _ _ _ _ _ _) i k

theorem out10_B (t : Fin cfg0.N) (h0 : ¬t.val % 32 = 0) (h1 : ¬t.val % 32 = 31) (p : Fin 8) (k : Fin 1024) :
    (outsAt0 m c t.val t.isLt).2.2.2.2.2.1 (ix2 p k)
      = (show EReal from (outsAt0 m c (t.val - 1) (by omega)).2.2.2.2.2.1 (ix2 p k)) + dgB m c t p k := by
  rw [outsAt0_B m c t h0 h1]; frame_out
  simp (decide := true) only [↓View.readCov_skip, View.readCov_cons_toLoadRect, read_unread_whole, wg_all, wu_all, wd_all]
  exact dgain_of_dn _ _ _ _ _ _ (dn_chain _ _ _ _ _ _) p k

theorem out5_C (t : Fin cfg0.N) (h0 : ¬t.val % 32 = 0) (h1 : t.val % 32 = 31) (i : Fin 256) (k : Fin 1024) :
    (outsAt0 m c t.val t.isLt).1 (ix2 i k) = dxB m c t i k := by
  rw [outsAt0_C m c t h0 h1]; frame_out
  simp (decide := true) only [↓View.readCov_skip, View.readCov_cons_toLoadRect, read_unread_whole, wg_all, wu_all, wd_all]
  exact dx_of_dn _ _ _ _ _ _ _ (dn_chain _ _ _ _ _ _) i k

theorem out10_C (t : Fin cfg0.N) (h0 : ¬t.val % 32 = 0) (h1 : t.val % 32 = 31) (k : Fin 1024) :
    (outsAt0 m c t.val t.isLt).2.2.2.2.2.1 (ix2 0 k)
      = ∑ p : Fin 8, ((show EReal from (outsAt0 m c (t.val - 1) (by omega)).2.2.2.2.2.1 (ix2 p k)) + dgB m c t p k) := by
  rw [outsAt0_C m c t h0 h1]; frame_out
  simp (decide := true) only [↓View.readCov_skip, View.readCov_cons_toLoadRect, read_unread_whole, wg_all, wu_all, wd_all]
  have e : (ix2 0 k : S8x1024.Idx) = (Rect.unit (s := S8x1024) ![0, 0] ![1, 1024] inb_S8x1024_S1x1024_0_0).emb (ix2 0 k) := by
    blk_ext
  rw [e, View.canon_cons_emb, fold_row]
  exact Finset.sum_congr rfl fun p _ => dgain_of_dn _ _ _ _ _ _ (dn_chain _ _ _ _ _ _) p k

/-- One more block of a contents, before a list of them. -/
theorem pieces_cons {s : Shape} {e : EltTy} {W : s.Idx → Elt Ideal e} {p : View.Piece (Elt Ideal) s e} {L : List (View.Piece (Elt Ideal) s e)}
    (h : ∀ x : p.1.shape.Idx, p.2 x = W (p.1.emb x)) (hL : View.PiecesOf W L) : View.PiecesOf W (p :: L) := ⟨h, hL⟩

theorem pieces_nil {s : Shape} {e : EltTy} {W : s.Idx → Elt Ideal e} : View.PiecesOf (Val := Elt Ideal) W [] := trivial

/-- Rows read back from a weight buffer that copied parts of `W` and has all of these rows by now. -/
theorem rows_read (W : Vec Ideal S2816x1024 .bf16) (v : View sig .tc .vmem S2816x1024 .bf16)
    (L : List (View.Piece (Elt Ideal) S2816x1024 .bf16)) (b : ℕ) (inb)
    (hp : View.PiecesOf W L)
    (hc : ∀ y : S2816x1024.Idx, b ≤ (y 0).val → (y 0).val < b + 256 → (y 1).val < 1024 → ∃ p ∈ L, y ∈ p.1.set) :
    v.readCov L (Rect.unit (s := S2816x1024) ![b, 0] ![256, 1024] inb).toLoadRect
      = View.ld W (Rect.unit (s := S2816x1024) ![b, 0] ![256, 1024] inb) := by
  rw [View.readCov_eq_canon']
  funext j
  have hb : ((Rect.unit (s := S2816x1024) ![b, 0] ![256, 1024] inb).emb j 0).val = b + 1 * (j 0).val := rfl
  have hj : (j 0).val < 256 := (j 0).isLt
  have h := View.canon_append_of_piecesOf W [] L hp ((Rect.unit (s := S2816x1024) ![b, 0] ![256, 1024] inb).emb j)
    (hc _ (by rw [hb]; omega) (by rw [hb]; omega) (Fin.isLt _))
  rw [List.append_nil] at h
  exact h

/-- One part of the weights, as it comes out of the slab. -/
theorem piece_row (o : ℕ) (ho : o + 352 ≤ 1056) (a q : ℕ) (haq : a = 352 * q) (hq : q < 8) (inb : ∀ d, (![q, o, 0] : Fin 3 → ℕ) d + (![1, 352, 1024] : Fin 3 → ℕ) d ≤ S8x1056x1024.size d)
    (hn : S352x1024.numel = S1x352x1024.numel)
    (inb' : ∀ d, (![a, 0] : Fin 2 → ℕ) d + (![352, 1024] : Fin 2 → ℕ) d ≤ S2816x1024.size d) (x : S352x1024.Idx) :
    V m c main_v30 ((Rect.unit (s := S8x1056x1024) ![q, o, 0] ![1, 352, 1024] inb).emb
      (Shape.reshapeEquiv (s' := S352x1024) hn x))
      = slabAt m c o ho ((Rect.unit (s := S2816x1024) ![a, 0] ![352, 1024] inb').emb x 0)
          ((Rect.unit (s := S2816x1024) ![a, 0] ![352, 1024] inb').emb x 1) := by
  idx_vars x
  unfold slabAt
  have e0 : ((Rect.unit (s := S2816x1024) ![a, 0] ![352, 1024] inb').emb (ix2 x0 x1) 0).val = a + 1 * x0.val := rfl
  have e1 : ((Rect.unit (s := S2816x1024) ![a, 0] ![352, 1024] inb').emb (ix2 x0 x1) 1).val = 0 + 1 * x1.val := rfl
  refine congrArg _ (emb_row _ _ _ _ _ _ ?_ ?_ ?_)
  · change ((Rect.unit (s := S2816x1024) ![a, 0] ![352, 1024] inb').emb (ix2 x0 x1) 0).val / 352 = q
    rw [e0]; omega
  · change o + ((Rect.unit (s := S2816x1024) ![a, 0] ![352, 1024] inb').emb (ix2 x0 x1) 0).val % 352 = o + x0.val
    rw [e0]; omega
  · change ((Rect.unit (s := S2816x1024) ![a, 0] ![352, 1024] inb').emb (ix2 x0 x1) 1).val = 0 + x1.val
    rw [e1]; omega

theorem piece_read (W : Vec Ideal S2816x1024 .bf16) (o : ℕ) (ho : o + 352 ≤ 1056) (hW : W = fun i => slabAt m c o ho (i 0) (i 1))
    (a q : ℕ) (haq : a = 352 * q) (hq : q < 8) (inb : ∀ d, (![q, o, 0] : Fin 3 → ℕ) d + (![1, 352, 1024] : Fin 3 → ℕ) d ≤ S8x1056x1024.size d)
    (hn : S352x1024.numel = S1x352x1024.numel)
    (inb' : ∀ d, (![a, 0] : Fin 2 → ℕ) d + (![352, 1024] : Fin 2 → ℕ) d ≤ S2816x1024.size d) {L : List (View.Piece (Elt Ideal) S2816x1024 .bf16)} (hL : View.PiecesOf W L) :
    View.PiecesOf W (⟨Rect.unit (s := S2816x1024) ![a, 0] ![352, 1024] inb', ReadAs.same.apply (View.read (Elt Ideal)
      (((View.whole main_v30).slice (Rect.unit (s := S8x1056x1024) ![q, o, 0] ![1, 352, 1024] inb)).reshape S352x1024 hn) (V m c main_v30))⟩ :: L) := by
  subst hW
  exact ⟨piece_row m c o ho a q haq hq inb hn inb', hL⟩

theorem wg_read (L : List (View.Piece (Elt Ideal) S2816x1024 .bf16)) (b : ℕ) (inb)
    (hp : View.PiecesOf (wgS m c) L)
    (hc : ∀ y : S2816x1024.Idx, b ≤ (y 0).val → (y 0).val < b + 256 → (y 1).val < 1024 → ∃ p ∈ L, y ∈ p.1.set) :
    (View.whole cc0_scratch0).readCov L (Rect.unit (s := S2816x1024) ![b, 0] ![256, 1024] inb).toLoadRect
      = View.ld (wgS m c) (Rect.unit (s := S2816x1024) ![b, 0] ![256, 1024] inb) := rows_read _ _ _ _ _ hp hc

theorem wu_read (L : List (View.Piece (Elt Ideal) S2816x1024 .bf16)) (b : ℕ) (inb)
    (hp : View.PiecesOf (wuS m c) L)
    (hc : ∀ y : S2816x1024.Idx, b ≤ (y 0).val → (y 0).val < b + 256 → (y 1).val < 1024 → ∃ p ∈ L, y ∈ p.1.set) :
    (View.whole cc0_scratch1).readCov L (Rect.unit (s := S2816x1024) ![b, 0] ![256, 1024] inb).toLoadRect
      = View.ld (wuS m c) (Rect.unit (s := S2816x1024) ![b, 0] ![256, 1024] inb) := rows_read _ _ _ _ _ hp hc

theorem wd_read (L : List (View.Piece (Elt Ideal) S2816x1024 .bf16)) (b : ℕ) (inb)
    (hp : View.PiecesOf (wdS m c) L)
    (hc : ∀ y : S2816x1024.Idx, b ≤ (y 0).val → (y 0).val < b + 256 → (y 1).val < 1024 → ∃ p ∈ L, y ∈ p.1.set) :
    (View.whole cc0_scratch2).readCov L (Rect.unit (s := S2816x1024) ![b, 0] ![256, 1024] inb).toLoadRect
      = View.ld (wdS m c) (Rect.unit (s := S2816x1024) ![b, 0] ![256, 1024] inb) := rows_read _ _ _ _ _ hp hc

set_option maxHeartbeats 4000000 in
theorem out5_A (t : Fin cfg0.N) (h0 : t.val % 32 = 0) (h1 : ¬t.val % 32 = 31) (i : Fin 256) (k : Fin 1024) :
    (outsAt0 m c t.val t.isLt).1 (ix2 i k) = dxB m c t i k := by
  rw [outsAt0_A m c t h0 h1]; frame_out
  simp (decide := true) only [↓View.readCov_skip, View.readCov_cons_toLoadRect, read_unread_whole]
  repeat rw [wg_read m c]
  repeat rw [wu_read m c]
  repeat rw [wd_read m c]
  · exact dx_of_dn _ _ _ _ _ _ _ (dn_chain _ _ _ _ _ _) i k
  all_goals first
    | (intro y h1 h2 h3
       simp only [List.mem_cons, List.not_mem_nil, or_false, exists_eq_or_imp, exists_eq_left, Rect.mem_set_unit, Fin.forall_fin_two,
         Matrix.cons_val_zero, Matrix.cons_val_one]
       omega)
    | (repeat
         refine piece_read m c _ _ (by decide) (by rfl) _ _ (by decide) (by decide) _ _ _ ?_
       exact pieces_nil)

set_option maxHeartbeats 4000000 in
theorem out10_A (t : Fin cfg0.N) (h0 : t.val % 32 = 0) (h1 : ¬t.val % 32 = 31) (p : Fin 8) (k : Fin 1024) :
    (outsAt0 m c t.val t.isLt).2.2.2.2.2.1 (ix2 p k) = dgB m c t p k := by
  rw [outsAt0_A m c t h0 h1]; frame_out
  simp (decide := true) only [↓View.readCov_skip, View.readCov_cons_toLoadRect, read_unread_whole]
  repeat rw [wg_read m c]
  repeat rw [wu_read m c]
  repeat rw [wd_read m c]
  · refine (dgain_of_dn _ _ _ _ _ _ (dn_chain _ _ _ _ _ _) p k).trans ?_
    rw [zero_row, zero_add]
    rfl
  all_goals first
    | (intro y h1 h2 h3
       simp only [List.mem_cons, List.not_mem_nil, or_false, exists_eq_or_imp, exists_eq_left, Rect.mem_set_unit, Fin.forall_fin_two,
         Matrix.cons_val_zero, Matrix.cons_val_one]
       omega)
    | (repeat
         refine piece_read m c _ _ (by decide) (by rfl) _ _ (by decide) (by decide) _ _ _ ?_
       exact pieces_nil)

theorem out5_all (t : Fin cfg0.N) (i : Fin 256) (k : Fin 1024) : (outsAt0 m c t.val t.isLt).1 (ix2 i k) = dxB m c t i k := by
  have ht : t.val < 32 := t.isLt
  by_cases h0 : t.val % 32 = 0
  · exact out5_A m c t h0 (by omega) i k
  · by_cases h1 : t.val % 32 = 31
    · exact out5_C m c t h0 h1 i k
    · exact out5_B m c t h0 h1 i k

theorem out10_acc (n : ℕ) (h : n < 31) (p : Fin 8) (k : Fin 1024) :
    (outsAt0 m c n (lt_trans h (by decide))).2.2.2.2.2.1 (ix2 p k)
      = ∑ s : Fin (n + 1), dgB m c ⟨s.val, lt_of_lt_of_le s.isLt (le_trans (Nat.succ_le_of_lt h) (by decide))⟩ p k := by
  induction n with
  | zero =>
    rw [Fin.sum_univ_one]
    exact out10_A m c ⟨0, by decide⟩ rfl (by show ¬0 % 32 = 31; decide) p k
  | succ n ih =>
    rw [Fin.sum_univ_castSucc]
    refine (out10_B m c ⟨n + 1, lt_trans h (by decide)⟩ (by show ¬(n + 1) % 32 = 0; omega)
      (by show ¬(n + 1) % 32 = 31; omega) p k).trans ?_
    exact congrArg₂ (· + ·) (ih (by omega)) rfl

theorem out10_row (k : Fin 1024) :
    (outsAt0 m c 31 (by decide)).2.2.2.2.2.1 (ix2 0 k) = ∑ p : Fin 8, ∑ t : Fin 32, dgB m c t p k := by
  refine (out10_C m c ⟨31, by decide⟩ (by show ¬31 % 32 = 0; decide) rfl k).trans ?_
  refine Finset.sum_congr rfl fun p _ => ?_
  rw [Fin.sum_univ_castSucc]
  exact congrArg₂ (· + ·) (out10_acc m c 30 (by decide) p k) rfl

end Cert.KernelIdeal.Value
-- ==== Proof.Ffn1.Rows.lean ====
module

public import proofs.«01_k».proof.Proof.Ffn1.Chain

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

/-- One hidden value: the normalized row, scaled by the gain, against one column of weights. -/
def hidden (x g w : Fin 1024 → EReal) : EReal := ∑ l, (x l * rs x * g l) * w l

/-- The gradient at the normalized row, from the row's input, its incoming gradient and the weights: one place. -/
def dnrow (d x g : Fin 1024 → EReal) (wg wu wd : Fin 1024 → Fin 2816 → EReal) (k : Fin 1024) : EReal :=
  ∑ J : Fin 2816, (dgate (hidden x g fun l => wg l J) (hidden x g fun l => wu l J) (dhid d fun l => wd l J) * wg k J
    + dup (hidden x g fun l => wg l J) (dhid d fun l => wd l J) * wu k J)

/-- The mean of a row's squares, kept off zero. -/
def ms (x : Fin 1024 → EReal) : EReal :=
  Ideal.div (∑ k, x k * x k) (Ideal.ofBits .f32 0x44800000#32) + Ideal.ofBits .f32 0x358637BD#32

/-- The logistic function as a quotient. -/
def sq (g : EReal) : EReal := Ideal.div 1 (1 + Ideal.exp (-g))

/-- The same gradient as the reference's differentiation composes it. -/
def rnrow (d x g : Fin 1024 → EReal) (wg wu wd : Fin 1024 → Fin 2816 → EReal) (k : Fin 1024) : EReal :=
  ∑ J : Fin 2816, (hidden x g fun l => wg l J) * sq (hidden x g fun l => wg l J) * (dhid d fun l => wd l J) * wu k J
    + ∑ J : Fin 2816, (((dhid d fun l => wd l J) * hidden x g fun l => wu l J) * sq (hidden x g fun l => wg l J)
        + (hidden x g fun l => wg l J) * ((dhid d fun l => wd l J) * hidden x g fun l => wu l J)
          * (sq (hidden x g fun l => wg l J) * (1 - sq (hidden x g fun l => wg l J)))) * wg k J

/-- The part of the input's gradient that comes through the mean square, per unit of the input. -/
def rsq (x g dn : Fin 1024 → EReal) : EReal :=
  Ideal.div ((∑ l, x l * (dn l * g l)) * (Ideal.ofBits .f32 0xBF000000#32 * Ideal.div (rs x) (ms x))) (Ideal.ofBits .f32 0x44800000#32)

/-- The input's gradient as the reference composes it. -/
def rxat (d : EReal) (x g dn : Fin 1024 → EReal) (k : Fin 1024) : EReal :=
  d + dn k * g k * rs x + x k * rsq x g dn + rsq x g dn * x k

theorem bits_half : Ideal.ofBits .f32 0x3F000000#32 = ((1 / 2 : ℝ) : EReal) := by
  simp [Ideal.ofBits, Ideal.ieee, -EReal.coe_mul, -EReal.coe_neg]; norm_num
theorem bits_neghalf : Ideal.ofBits .f32 0xBF000000#32 = ((-1 / 2 : ℝ) : EReal) := by
  simp [Ideal.ofBits, Ideal.ieee, -EReal.coe_mul, -EReal.coe_neg]; norm_num
theorem bits_n : Ideal.ofBits .f32 0x44800000#32 = ((1024 : ℝ) : EReal) := by
  simp [Ideal.ofBits, Ideal.ieee, -EReal.coe_mul, -EReal.coe_neg]; norm_num
theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul, -EReal.coe_neg]; norm_num
theorem coe_sum' {n : ℕ} (f : Fin n → ℝ) : ∑ k, ((f k : ℝ) : EReal) = ((∑ k, f k : ℝ) : EReal) := by
  induction n with
  | zero => simp
  | succ n ih => rw [Fin.sum_univ_succ, Fin.sum_univ_succ, ih, EReal.coe_add]

theorem rs_coe (X : Fin 1024 → ℝ) : ∃ M r : ℝ, 0 < M ∧ r * r * M = 1 ∧ (ms fun l => (X l : EReal)) = (M : EReal) ∧ (rs fun l => (X l : EReal)) = (r : EReal) := by
  obtain ⟨e, he, hb⟩ := bits_eps
  have hM : 0 < (∑ k, X k * X k) * (1 / 1024) + e := by
    have : 0 ≤ ∑ k, X k * X k := Finset.sum_nonneg fun k _ => mul_self_nonneg _
    positivity
  have hms : (ms fun l => (X l : EReal)) = (((∑ k, X k * X k) * (1 / 1024) + e : ℝ) : EReal) := by
    unfold ms
    rw [hb, bits_n, Ideal.div_coe (by norm_num : (1024 : ℝ) ≠ 0)]
    simp only [← EReal.coe_mul, coe_sum', ← EReal.coe_add]
  refine ⟨_, (√((∑ k, X k * X k) * (1 / 1024) + e))⁻¹, hM, ?_, hms, ?_⟩
  · have h1 : √((∑ k, X k * X k) * (1 / 1024) + e) * √((∑ k, X k * X k) * (1 / 1024) + e) = (∑ k, X k * X k) * (1 / 1024) + e :=
      Real.mul_self_sqrt hM.le
    have h2 : √((∑ k, X k * X k) * (1 / 1024) + e) ≠ 0 := (Real.sqrt_pos.mpr hM).ne'
    generalize √((∑ k, X k * X k) * (1 / 1024) + e) = s at h1 h2 ⊢
    rw [← h1]; field_simp
  · show Ideal.rsqrt (ms fun l => (X l : EReal)) = _
    rw [hms, Ideal.rsqrt_coe, if_neg (not_lt.mpr hM.le), if_neg hM.ne']

theorem sq_coe (g : ℝ) : sq (g : EReal) = (((1 + Real.exp (-g))⁻¹ : ℝ) : EReal) := Ideal.logistic_coe g
theorem sg_coe (g : ℝ) : sg (g : EReal) = (((1 + Real.exp (-g))⁻¹ : ℝ) : EReal) := Ideal.logistic_coe g
theorem one_coe' : (1 : EReal) = ((1 : ℝ) : EReal) := rfl

theorem dhid_coe (D W : Fin 1024 → ℝ) : ∃ h : ℝ, (dhid (fun l => (D l : EReal)) fun l => (W l : EReal)) = (h : EReal) := by
  unfold dhid; rw [bits_half]; simp only [← EReal.coe_mul, coe_sum']; exact ⟨_, rfl⟩
theorem hidden_coe (X N W : Fin 1024 → ℝ) :
    ∃ h : ℝ, (hidden (fun l => (X l : EReal)) (fun l => (N l : EReal)) fun l => (W l : EReal)) = (h : EReal) := by
  obtain ⟨M, r, -, -, -, hr⟩ := rs_coe X
  unfold hidden; rw [hr]; simp only [← EReal.coe_mul, coe_sum']; exact ⟨_, rfl⟩

/-- Over finite rows the two gradients at the normalized row are one finite number. -/
theorem dn_coe (D X N : Fin 1024 → ℝ) (WG WU WD : Fin 1024 → Fin 2816 → ℝ) : ∃ dn : Fin 1024 → ℝ,
    (∀ k, dnrow (fun l => (D l : EReal)) (fun l => (X l : EReal)) (fun l => (N l : EReal)) (fun l J => (WG l J : EReal))
      (fun l J => (WU l J : EReal)) (fun l J => (WD l J : EReal)) k = (dn k : EReal))
    ∧ ∀ k, rnrow (fun l => (D l : EReal)) (fun l => (X l : EReal)) (fun l => (N l : EReal)) (fun l J => (WG l J : EReal))
      (fun l J => (WU l J : EReal)) (fun l J => (WD l J : EReal)) k = (dn k : EReal) := by
  choose G hG using fun J => hidden_coe X N fun l => WG l J
  choose U hU using fun J => hidden_coe X N fun l => WU l J
  choose H hH using fun J => dhid_coe D fun l => WD l J
  refine ⟨fun k => ∑ J, (H J * U J * ((1 + Real.exp (-G J))⁻¹ * (1 + G J * (1 - (1 + Real.exp (-G J))⁻¹))) * WG k J
    + H J * (G J * (1 + Real.exp (-G J))⁻¹) * WU k J), fun k => ?_, fun k => ?_⟩
  · unfold dnrow dgate dup
    simp only [hG, hU, hH, sg_coe, one_coe', ← EReal.coe_mul, ← EReal.coe_add, ← EReal.coe_sub, coe_sum']
  · unfold rnrow
    simp only [hG, hU, hH, sq_coe, one_coe', ← EReal.coe_mul, ← EReal.coe_add, ← EReal.coe_sub, coe_sum']
    rw [← Finset.sum_add_distrib]
    congr 1
    refine Finset.sum_congr rfl fun J _ => ?_
    ring

/-- Over finite rows the two forms of the input's gradient agree. -/
theorem dx_coe (d : ℝ) (X N dn : Fin 1024 → ℝ) (k : Fin 1024) :
    rxat (d : EReal) (fun l => (X l : EReal)) (fun l => (N l : EReal)) (fun l => (dn l : EReal)) k
      = dxat (d : EReal) (fun l => (X l : EReal)) (fun l => (N l : EReal)) (fun l => (dn l : EReal)) k := by
  obtain ⟨M, r, hM, hrM, hms, hr⟩ := rs_coe X
  unfold rxat dxat rsq
  rw [hms, hr, bits_n, bits_neghalf, Ideal.div_coe (by norm_num : (1024 : ℝ) ≠ 0), Ideal.div_coe hM.ne', Ideal.div_coe (by norm_num : (1024 : ℝ) ≠ 0)]
  simp only [← EReal.coe_mul, ← EReal.coe_add, ← EReal.coe_sub, coe_sum']
  congr 1
  have hsum : ∑ l, dn l * N l * (X l * r) = (∑ l, X l * (dn l * N l)) * r := by
    rw [Finset.sum_mul]; exact Finset.sum_congr rfl fun l _ => by ring
  have hMi : 1 / M = r * r := by field_simp; linarith
  rw [hsum, hMi]
  ring

end Cert.KernelIdeal.Value
-- ==== Proof.Ffn1.Operands.lean ====
module

public import proofs.«01_k».proof.Proof.Ffn1.Weights
public import proofs.«01_k».proof.Proof.Ffn1.Rows

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ) (c : Dev nD)

/-- Where every window's block lies, at every point. -/
theorem idx : ∀ t : Fin cfg0.N, win0_0.index t = ![t.val, 0] ∧ win0_1.index t = ![t.val, 0] ∧ win0_2.index t = ![0, 0]
    ∧ win0_3.index t = ![0, t.val, 0] ∧ win0_4.index t = ![0, t.val, 0] ∧ win0_5.index t = ![t.val, 0] ∧ win0_10.index t = ![0, 0] :=
  (by decide +kernel : ∀ t : Fin grid0.N, _)

/-- The arguments' arrays. -/
def aX : FVec Ideal S8192x1024 .f32 := m ((c : Thread nD τ).loc main_arg0)
def aN : FVec Ideal S1024 .f32 := m ((c : Thread nD τ).loc main_arg1)
def aG : FVec Ideal S1024x2816 .f32 := m ((c : Thread nD τ).loc main_arg2)
def aU : FVec Ideal S1024x2816 .f32 := m ((c : Thread nD τ).loc main_arg3)
def aD : FVec Ideal S2816x1024 .f32 := m ((c : Thread nD τ).loc main_arg4)
def aO : FVec Ideal S8192x1024 .f32 := m ((c : Thread nD τ).loc main_arg5)

/-- The place of a block's row in the whole array. -/
def row (t : Fin cfg0.N) (i : Fin 256) : Fin 8192 := ⟨t.val * 256 + i.val, by have : t.val < 32 := t.isLt; omega⟩

theorem blk0 (t : Fin cfg0.N) (i : Fin 256) (k : Fin 1024) : iblk m c 0 t (ix2 i k) = aO m c (ix2 (row t i) k) := by
  unfold aO row
  blk_point [iblk, V, idx t]

theorem blk1 (t : Fin cfg0.N) (i : Fin 256) (k : Fin 1024) : iblk m c 1 t (ix2 i k) = aX m c (ix2 (row t i) k) := by
  unfold aX row
  blk_point [iblk, V, idx t]

theorem V_eq (b : Ref sig .tc) : V m c b = StableHlo.after (hostOps0 (F := Ideal)) (fun b => m (c, b)) (Proc.tc.devRef b) := rfl

theorem nrow (k : Fin 1024) : V m c main_v13 (ix2 0 k) = aN m c (ix1 k) := by
  rw [V_eq]; entry_read
  pointwise
  rfl

theorem blk2 (t : Fin cfg0.N) (k : Fin 1024) : iblk m c 2 t (ix2 0 k) = aN m c (ix1 k) := by
  rw [← nrow]
  blk_point [iblk, idx t]

theorem gsAt (cc : Fin 11) (T : Fin 8192) (j : Fin 256) : V m c main_v17 (ix3 cc T j)
   = hidden (fun l => aX m c (ix2 T l)) (fun l => aN m c (ix1 l)) (fun l => aG m c (ix2 l ⟨cc.val * 256 + j.val, by omega⟩)) := by
  rw [V_eq]; entry_read
  pointwise [hidden, rs, aX, aN, aG]

theorem slab_eq : V m c main_v30 = concatenate S8x1056x1024 1 [⟨S8x352x1024, V m c main_v25⟩, ⟨S8x352x1024, V m c main_v27⟩, ⟨S8x352x1024, V m c main_v29⟩]
    concatenates_S8x352x1024_S8x352x1024_S8x352x1024_S8x1056x1024_d1 := by
  have e : hostOps0 (F := Ideal) = List.take 33 hostOps0 ++ [_] := rfl
  rw [V_eq m c main_v30, V_eq m c main_v25, V_eq m c main_v27, V_eq m c main_v29]
  rw [e, StableHlo.after_append]
  generalize StableHlo.after (List.take 33 (hostOps0 (F := Ideal))) (fun b => m (c, b)) = W
  simp only [StableHlo.after_cons, StableHlo.after_nil]
  rw [StableHlo.nary_result, StableHlo.nary_result_ne, StableHlo.nary_result_ne, StableHlo.nary_result_ne]
  · rfl
  all_goals decide

theorem v25 (p : Fin 8) (q : Fin 352) (k : Fin 1024) : V m c main_v25 (ix3 p q k) = aG m c (ix2 k ⟨p.val * 352 + q.val, by omega⟩) := by
  rw [V_eq]; entry_read
  pointwise [aG]
theorem v27 (p : Fin 8) (q : Fin 352) (k : Fin 1024) : V m c main_v27 (ix3 p q k) = aU m c (ix2 k ⟨p.val * 352 + q.val, by omega⟩) := by
  rw [V_eq]; entry_read
  pointwise [aU]
theorem v29 (p : Fin 8) (q : Fin 352) (k : Fin 1024) : V m c main_v29 (ix3 p q k) = aD m c (ix2 ⟨p.val * 352 + q.val, by omega⟩ k) := by
  rw [V_eq]; entry_read
  pointwise [aD]
theorem wg_at (J : Fin 2816) (k : Fin 1024) : wgS m c (ix2 J k) = aG m c (ix2 k J) := by
  have hJ := J.isLt
  have h := v25 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wgS slabAt
  rw [slab_eq]
  pointwise
  exact dif_pos (by omega)
theorem wu_at (J : Fin 2816) (k : Fin 1024) : wuS m c (ix2 J k) = aU m c (ix2 k J) := by
  have hJ := J.isLt
  have h := v27 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wuS slabAt
  rw [slab_eq]
  pointwise
  exact dif_pos (by omega)
theorem wd_at (J : Fin 2816) (k : Fin 1024) : wdS m c (ix2 J k) = aD m c (ix2 J k) := by
  have hJ := J.isLt
  have h := v29 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wdS slabAt
  rw [slab_eq]
  pointwise
  rw [dif_neg (by omega), dif_neg (by omega)]
  exact congrArg (fun q => V m c main_v29 (ix3 _ q k)) (Fin.ext (by show 704 + J.val % 352 - 352 - 352 = J.val % 352; omega))
theorem usAt (cc : Fin 11) (T : Fin 8192) (j : Fin 256) : V m c main_v21 (ix3 cc T j)
   = hidden (fun l => aX m c (ix2 T l)) (fun l => aN m c (ix1 l)) (fun l => aU m c (ix2 l ⟨cc.val * 256 + j.val, by omega⟩)) := by
  rw [V_eq]; entry_read
  pointwise [hidden, rs, aX, aN, aU]

theorem blk3 (t : Fin cfg0.N) (cc : Fin 11) (i j : Fin 256) : iblk m c 3 t (ix3 cc i j) = V m c main_v17 (ix3 cc (row t i) j) := by
  unfold row
  blk_point [iblk, idx t]
theorem blk4 (t : Fin cfg0.N) (cc : Fin 11) (i j : Fin 256) : iblk m c 4 t (ix3 cc i j) = V m c main_v21 (ix3 cc (row t i) j) := by
  unfold row
  blk_point [iblk, idx t]

theorem gblk (t : Fin cfg0.N) (cc : Fin 11) (i j : Fin 256) : iblk m c 3 t (ix3 cc i j)
    = hidden (fun l => aX m c (ix2 (row t i) l)) (fun l => aN m c (ix1 l)) (fun l => aG m c (ix2 l ⟨cc.val * 256 + j.val, by omega⟩)) :=
  (blk3 m c t cc i j).trans (gsAt m c cc (row t i) j)

theorem ublk (t : Fin cfg0.N) (cc : Fin 11) (i j : Fin 256) : iblk m c 4 t (ix3 cc i j)
    = hidden (fun l => aX m c (ix2 (row t i) l)) (fun l => aN m c (ix1 l)) (fun l => aU m c (ix2 l ⟨cc.val * 256 + j.val, by omega⟩)) :=
  (blk4 m c t cc i j).trans (usAt m c cc (row t i) j)

theorem dnat_at (t : Fin cfg0.N) (i : Fin 256) (k : Fin 1024) :
    dnat (iblk m c 0 t) (iblk m c 3 t) (iblk m c 4 t) (wgS m c) (wuS m c) (wdS m c) i k
      = dnrow (fun l => aO m c (ix2 (row t i) l)) (fun l => aX m c (ix2 (row t i) l)) (fun l => aN m c (ix1 l))
          (fun l J => aG m c (ix2 l J)) (fun l J => aU m c (ix2 l J)) (fun l J => aD m c (ix2 J l)) k := by
  unfold dnat dnrow gpart upart
  rw [Fin.sum_univ_tiles 11 256 rfl]
  simp only [wg_at, wu_at, wd_at, blk0, gblk, ublk, Finset.sum_add_distrib]
end Cert.KernelIdeal.Value
-- ==== Proof.Ffn1.Arrays.lean ====
module

public import proofs.«01_k».proof.Proof.Ffn1.Point
public import Idealize.ShloMosaic.Lib.Claim
public import proofs.«01_k».proof.Proof.Ffn1.Operands

@[expose] public section

set_option maxRecDepth 16384

noncomputable section

open Idealize.ShloMosaic Idealize.ShloMosaic.TcCoe Idealize.SL.Sem
open Idealize.ShloMosaic.Pipeline (Dat)

namespace Cert.KernelIdeal.Value
open Cert.KernelIdeal Cert.KernelIdeal.Gen

variable (m : (ℓ : Loc nD τ sig) → Buf (Elt Ideal) ℓ) (c : Dev nD)

/-- The gradient at the normalized row of one row of the input. -/
def kdn (T : Fin 8192) : Fin 1024 → EReal :=
  dnrow (fun l => aO m c (ix2 T l)) (fun l => aX m c (ix2 T l)) (fun l => aN m c (ix1 l))
    (fun l J => aG m c (ix2 l J)) (fun l J => aU m c (ix2 l J)) fun l J => aD m c (ix2 J l)

/-- The gradient at the input, everywhere. -/
def gdx : FVec Ideal S8192x1024 .f32 := fun i =>
  dxat (aO m c (ix2 (i 0) (i 1))) (fun l => aX m c (ix2 (i 0) l)) (fun l => aN m c (ix1 l)) (kdn m c (i 0)) (i 1)

/-- The gradient of the norm's gain, everywhere. -/
def gdn : FVec Ideal S1024 .f32 := fun i =>
  ∑ T : Fin 8192, kdn m c T (i 0) * (aX m c (ix2 T (i 0)) * rs fun l => aX m c (ix2 T l))

theorem dxB_at (t : Fin cfg0.N) (i : Fin 256) (k : Fin 1024) : dxB m c t i k = gdx m c (ix2 (row t i) k) := by
  unfold dxB gdx kdn
  simp only [blk0, blk1, blk2]
  rw [show (dnat (iblk m c 0 t) (iblk m c 3 t) (iblk m c 4 t) (wgS m c) (wuS m c) (wdS m c) i) = _ from funext fun k => dnat_at m c t i k]
  rfl

theorem dgB_at (t : Fin cfg0.N) (p : Fin 8) (k : Fin 1024) : dgB m c t p k
    = ∑ q : Fin 32, kdn m c (row t ⟨q.val * 8 + p.val, by omega⟩) k * (aX m c (ix2 (row t ⟨q.val * 8 + p.val, by omega⟩) k)
        * rs fun l => aX m c (ix2 (row t ⟨q.val * 8 + p.val, by omega⟩) l)) := by
  unfold dgB kdn
  simp only [dnat_at, blk1]

theorem arr5 : (dats m 0 c).arrAt 5 (cfgs 0).N = gdx m c := by
  refine (dats m 0 c).arrAt_eq_of_covers 5 _ (by decide +kernel) fun t hf y => ?_
  blk_simp
  rw [after0_5]
  idx_vars y
  refine (out5_all m c t y0 y1).trans ((dxB_at m c t y0 y1).trans ?_)
  unfold row
  blk_ext [idx t]

theorem rows_sum (f : Fin 8192 → EReal) :
    ∑ p : Fin 8, ∑ t : Fin 32, ∑ q : Fin 32, f ⟨t.val * 256 + (q.val * 8 + p.val), by omega⟩ = ∑ T, f T := by
  rw [Fin.sum_univ_tiles 32 256 rfl f, Finset.sum_comm]
  refine Finset.sum_congr rfl fun t _ => ?_
  rw [Fin.sum_univ_tiles 32 8 rfl, Finset.sum_comm]

/-- What a point leaves of the partial sums. -/
def sums (n : ℕ) (hn : n < cfg0.N) : Vec Ideal S8x1024 .f32 := (outsAt0 m c n hn).2.2.2.2.2.1

theorem after_sums (t : Fin cfg0.N) : (dats m 0 c).after 10 t = sums m c t.val t.isLt := after0_10 m c t

theorem sums_last (n : ℕ) (hn : n < cfg0.N) (h : n = 31) : sums m c n hn = sums m c 31 (by decide) := by
  subst h; rfl

/-- The partial sums' array is what the last point leaves: the one block is written back there only. -/
theorem arr10_last : (dats m 0 c).arrAt 10 (cfgs 0).N = sums m c 31 (by decide) := by
  refine (dats m 0 c).arrAt_eq_of_covers 10 _ (by decide +kernel) fun t hf y => ?_
  have ht : t.val = 31 := by
    have h1 := (flush0_10 t).mp hf
    have h2 : t.val < 32 := t.isLt
    omega
  blk_simp
  rw [after_sums, sums_last m c t.val t.isLt ht]
  generalize sums m c 31 _ = A
  idx_vars y
  blk_ext [idx t]

theorem arr10 (k : Fin 1024) : (dats m 0 c).arrAt 10 (cfgs 0).N (ix2 0 k) = gdn m c (ix1 k) := by
  refine (congrFun (arr10_last m c) _).trans ((out10_row m c k).trans
    ((Finset.sum_congr rfl fun p _ => Finset.sum_congr rfl fun t _ => dgB_at m c t p k).trans ?_))
  exact rows_sum fun T => kdn m c T k * (aX m c (ix2 T k) * rs fun l => aX m c (ix2 T l))

/-- The gain's gradient as the lines after the call leave it: row 0 of the partial sums. -/
theorem tail33 : Pipeline.afterTail₀ cfgs (dats m) 0 (V0 m) [hostOps1] c main_v33 = gdn m c := by
  unfold Pipeline.afterTail₀
  have hw := Pipeline.withArrays_arr (cfgs 0).spec (by decide) c (V0 m c) (fun w => (dats m 0 c).arrAt w (cfgs 0).N) 10
  generalize Pipeline.withArrays (cfgs 0).spec c (V0 m c) (fun w => (dats m 0 c).arrAt w (cfgs 0).N) = W at hw ⊢
  have e : StableHlo.after ([hostOps1 (F := Ideal)]).flatten W (Proc.devRef .tc main_v33)
      = shapeCast S1024 (extractStridedSlice S1x1024 ![0, 0] (W (Proc.devRef .tc main_v31_5)) slices_S8x1024_S1x1024_0_0) shapeCasts_S1x1024_S1024 := by
    rfl
  rw [e]
  funext i
  idx_vars i
  pointwise
  exact (congrFun hw _).trans (arr10 m c _)

/-- The whole run: both results, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v31_0) = gdx m c
      ∧ r.2.mem ((c.tc : Thread nD τ).loc main_v33) = gdn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1 c).1 5).trans (arr5 m c), ((h.1 c).2 main_v33 (by decide)).trans (tail33 m c), h.2 c⟩)
    (θ_run_and (run_main m ρ) (unchanged m ρ))

end Cert.KernelIdeal.Value
-- ==== Proof.Ffn1.Ref.lean ====
module

public import proofs.«01_k».proof.Proof.Ffn1.Rows
public import proofs.«01_k».proof.Proof.Gen.ReferenceIdeal.Run

@[expose] public section

set_option maxRecDepth 16384

noncomputable section

open Idealize.ShloMosaic Idealize.ShloMosaic.TcCoe Idealize.SL.Sem

namespace Cert.ReferenceIdeal.Value
open Cert.ReferenceIdeal Cert.ReferenceIdeal.Gen
open Cert.KernelIdeal.Value (rs ms sq hidden rnrow rsq rxat dhid)

variable (m : (ℓ : Loc nD τ sig) → Buf (Elt Ideal) ℓ) (c : Dev nD)

/-- The arguments' arrays. -/
def aX : FVec Ideal S8192x1024 .f32 := m ((c : Thread nD τ).loc main_arg0)
def aN : FVec Ideal S1024 .f32 := m ((c : Thread nD τ).loc main_arg1)
def aG : FVec Ideal S1024x2816 .f32 := m ((c : Thread nD τ).loc main_arg2)
def aU : FVec Ideal S1024x2816 .f32 := m ((c : Thread nD τ).loc main_arg3)
def aD : FVec Ideal S2816x1024 .f32 := m ((c : Thread nD τ).loc main_arg4)
def aO : FVec Ideal S8192x1024 .f32 := m ((c : Thread nD τ).loc main_arg5)

theorem args : m ((c : Thread nD τ).loc main_arg0) = aX m c ∧ m ((c : Thread nD τ).loc main_arg1) = aN m c
    ∧ m ((c : Thread nD τ).loc main_arg2) = aG m c ∧ m ((c : Thread nD τ).loc main_arg3) = aU m c
    ∧ m ((c : Thread nD τ).loc main_arg4) = aD m c ∧ m ((c : Thread nD τ).loc main_arg5) = aO m c := ⟨rfl, rfl, rfl, rfl, rfl, rfl⟩

/-- The reference's gradient at the normalized row of one row of the input. -/
def rdn (T : Fin 8192) : Fin 1024 → EReal :=
  rnrow (fun l => aO m c (ix2 T l)) (fun l => aX m c (ix2 T l)) (fun l => aN m c (ix1 l))
    (fun l J => aG m c (ix2 l J)) (fun l J => aU m c (ix2 l J)) fun l J => aD m c (ix2 J l)

theorem gain_at (k : Fin 1024) : res_main_v45 m c (ix1 k)
    = ∑ T : Fin 8192, aX m c (ix2 T k) * (rs fun l => aX m c (ix2 T l)) * rdn m c T k := by
  unfold res_main_v45
  pointwise
  simp only [args m c, Finset.sum_const, Finset.card_univ, Fintype.card_fin, one_smul]
  rfl

theorem dx_at (T : Fin 8192) (k : Fin 1024) : res_main_v60 m c (ix2 T k)
    = rxat (aO m c (ix2 T k)) (fun l => aX m c (ix2 T l)) (fun l => aN m c (ix1 l)) (rdn m c T) k := by
  unfold res_main_v60
  pointwise
  simp only [args m c, Finset.sum_const, Finset.card_univ, Fintype.card_fin, one_smul]
  rfl

end Cert.ReferenceIdeal.Value
-- ==== Proof.Ffn1.Finite.lean ====
module

public import proofs.«01_k».proof.Defs
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.KernelIdeal.Value

/-- The bit pattern the precondition compares with is positive infinity. -/
theorem bits_inf : Ideal.ofBits .f32 0x7F800000#32 = ⊤ := by
  simp [Ideal.ofBits, Ideal.ieee]

/-- A value whose magnitude lies below infinity is a real number. -/
theorem real_of_lt (x : EReal) (h : BitVec.ofBool (decide ((FloatOps.absf (F := Ideal) (φ := .f32) x : EReal) < Ideal.ofBits .f32 0x7F800000#32)) = 1#1) : ∃ r : ℝ, x = r := by
  rw [bits_inf] at h
  induction x with
  | bot => exfalso; revert h; simp [FloatOps.absf]
  | coe r => exact ⟨r, rfl⟩
  | top => exfalso; revert h; simp [FloatOps.absf]

section
variable [Cert.Pre_finite.Facts] (X : FVec Ideal Cert.Pre_finite.S8192x1024 .f32) (N : FVec Ideal Cert.Pre_finite.S1024 .f32) (G U : FVec Ideal Cert.Pre_finite.S1024x2816 .f32)
  (D : FVec Ideal Cert.Pre_finite.S2816x1024 .f32) (O : FVec Ideal Cert.Pre_finite.S8192x1024 .f32)
theorem x_of (h : (Cert.Pre_finite.fn X N G U D O).1 = fun _ => 1#1) (i) : ∃ r : ℝ, X i = r := by
  replace h := congrFun h i
  unfold Cert.Pre_finite.fn at h
  idx_vars i
  pointwise at h
  exact real_of_lt _ h
theorem n_of (h : (Cert.Pre_finite.fn X N G U D O).2.1 = fun _ => 1#1) (i) : ∃ r : ℝ, N i = r := by
  replace h := congrFun h i
  unfold Cert.Pre_finite.fn at h
  idx_vars i
  pointwise at h
  exact real_of_lt _ h
theorem g_of (h : (Cert.Pre_finite.fn X N G U D O).2.2.1 = fun _ => 1#1) (i) : ∃ r : ℝ, G i = r := by
  replace h := congrFun h i
  unfold Cert.Pre_finite.fn at h
  idx_vars i
  pointwise at h
  exact real_of_lt _ h
theorem u_of (h : (Cert.Pre_finite.fn X N G U D O).2.2.2.1 = fun _ => 1#1) (i) : ∃ r : ℝ, U i = r := by
  replace h := congrFun h i
  unfold Cert.Pre_finite.fn at h
  idx_vars i
  pointwise at h
  exact real_of_lt _ h
theorem d_of (h : (Cert.Pre_finite.fn X N G U D O).2.2.2.2.1 = fun _ => 1#1) (i) : ∃ r : ℝ, D i = r := by
  replace h := congrFun h i
  unfold Cert.Pre_finite.fn at h
  idx_vars i
  pointwise at h
  exact real_of_lt _ h
theorem o_of (h : (Cert.Pre_finite.fn X N G U D O).2.2.2.2.2 = fun _ => 1#1) (i) : ∃ r : ℝ, O i = r := by
  replace h := congrFun h i
  unfold Cert.Pre_finite.fn at h
  idx_vars i
  pointwise at h
  exact real_of_lt _ h
end
end Cert.KernelIdeal.Value
-- ==== Proof.Ffn1.Equal.lean ====
module

public import proofs.«01_k».proof.Proof.Ffn1.Arrays
public import proofs.«01_k».proof.Proof.Ffn1.Ref
public import proofs.«01_k».proof.Proof.Ffn1.Finite

@[expose] public section

set_option maxRecDepth 16384

noncomputable section

open Idealize.ShloMosaic Idealize.ShloMosaic.TcCoe Idealize.SL.Sem

namespace Cert.KernelIdeal.Value
open Cert.KernelIdeal Cert.KernelIdeal.Gen

/-- Over rows of real numbers the reference's form and the kernel's agree. -/
theorem rows_equal (d x g : Fin 1024 → EReal) (wg wu wd : Fin 1024 → Fin 2816 → EReal) (hd : ∀ l, ∃ r : ℝ, d l = r)
    (hx : ∀ l, ∃ r : ℝ, x l = r) (hg : ∀ l, ∃ r : ℝ, g l = r) (hwg : ∀ l J, ∃ r : ℝ, wg l J = r)
    (hwu : ∀ l J, ∃ r : ℝ, wu l J = r) (hwd : ∀ l J, ∃ r : ℝ, wd l J = r) :
    rnrow d x g wg wu wd = dnrow d x g wg wu wd
      ∧ ∀ k, rxat (d k) x g (rnrow d x g wg wu wd) k = dxat (d k) x g (dnrow d x g wg wu wd) k := by
  choose D hD using hd
  choose X hX using hx
  choose N hN using hg
  choose WG hWG using hwg
  choose WU hWU using hwu
  choose WD hWD using hwd
  obtain rfl : d = fun l => (D l : EReal) := funext hD
  obtain rfl : x = fun l => (X l : EReal) := funext hX
  obtain rfl : g = fun l => (N l : EReal) := funext hN
  obtain rfl : wg = fun l J => (WG l J : EReal) := funext fun l => funext (hWG l)
  obtain rfl : wu = fun l J => (WU l J : EReal) := funext fun l => funext (hWU l)
  obtain rfl : wd = fun l J => (WD l J : EReal) := funext fun l => funext (hWD l)
  obtain ⟨dn, hk, hr⟩ := dn_coe D X N WG WU WD
  rw [funext hk, funext hr]
  exact ⟨rfl, fun k => dx_coe (D k) X N dn k⟩

variable (m : (ℓ : Loc nD τ sig) → Buf (Elt Ideal) ℓ)
  (m' : (ℓ : Loc Cert.ReferenceIdeal.nD Cert.ReferenceIdeal.τ Cert.ReferenceIdeal.sig) → Buf (Elt Ideal) ℓ) (c : Dev nD)
  (hX : Cert.ReferenceIdeal.Value.aX m' c = aX m c) (hN : Cert.ReferenceIdeal.Value.aN m' c = aN m c)
  (hG : Cert.ReferenceIdeal.Value.aG m' c = aG m c) (hU : Cert.ReferenceIdeal.Value.aU m' c = aU m c)
  (hD : Cert.ReferenceIdeal.Value.aD m' c = aD m c) (hO : Cert.ReferenceIdeal.Value.aO m' c = aO m c)
  (fX : ∀ i, ∃ r : ℝ, aX m c i = r) (fN : ∀ i, ∃ r : ℝ, aN m c i = r) (fG : ∀ i, ∃ r : ℝ, aG m c i = r)
  (fU : ∀ i, ∃ r : ℝ, aU m c i = r) (fD : ∀ i, ∃ r : ℝ, aD m c i = r) (fO : ∀ i, ∃ r : ℝ, aO m c i = r)

include hX hN hG hU hD hO in
theorem rdn_eq (T : Fin 8192) : Cert.ReferenceIdeal.Value.rdn m' c T
    = rnrow (fun l => aO m c (ix2 T l)) (fun l => aX m c (ix2 T l)) (fun l => aN m c (ix1 l))
        (fun l J => aG m c (ix2 l J)) (fun l J => aU m c (ix2 l J)) fun l J => aD m c (ix2 J l) := by
  unfold Cert.ReferenceIdeal.Value.rdn
  rw [hX, hN, hG, hU, hD, hO]

include fX fN fG fU fD fO in
theorem rows_at (T : Fin 8192) :
    (rnrow (fun l => aO m c (ix2 T l)) (fun l => aX m c (ix2 T l)) (fun l => aN m c (ix1 l))
        (fun l J => aG m c (ix2 l J)) (fun l J => aU m c (ix2 l J)) fun l J => aD m c (ix2 J l)) = kdn m c T
    ∧ ∀ k, rxat (aO m c (ix2 T k)) (fun l => aX m c (ix2 T l)) (fun l => aN m c (ix1 l)) (rnrow (fun l => aO m c (ix2 T l)) (fun l => aX m c (ix2 T l)) (fun l => aN m c (ix1 l))
        (fun l J => aG m c (ix2 l J)) (fun l J => aU m c (ix2 l J)) fun l J => aD m c (ix2 J l)) k
      = dxat (aO m c (ix2 T k)) (fun l => aX m c (ix2 T l)) (fun l => aN m c (ix1 l)) (kdn m c T) k :=
  rows_equal (fun l => aO m c (ix2 T l)) (fun l => aX m c (ix2 T l)) (fun l => aN m c (ix1 l))
  (fun l J => aG m c (ix2 l J)) (fun l J => aU m c (ix2 l J)) (fun l J => aD m c (ix2 J l))
  (fun _ => fO _) (fun _ => fX _) (fun _ => fN _) (fun _ _ => fG _) (fun _ _ => fU _) fun _ _ => fD _

include hX hN hG hU hD hO fX fN fG fU fD fO in
theorem dx_equal : Cert.ReferenceIdeal.Value.res_main_v60 m' c = gdx m c := by
  funext i
  idx_vars i
  refine (Cert.ReferenceIdeal.Value.dx_at m' c i0 i1).trans ?_
  rw [rdn_eq m m' c hX hN hG hU hD hO, hX, hN, hO]
  exact (rows_at m c fX fN fG fU fD fO i0).2 i1

include hX hN hG hU hD hO fX fN fG fU fD fO in
theorem gain_equal : Cert.ReferenceIdeal.Value.res_main_v45 m' c = gdn m c := by
  funext i
  idx_vars i
  refine (Cert.ReferenceIdeal.Value.gain_at m' c i0).trans
    ((Finset.sum_congr rfl fun T _ => ?_ : (_ : EReal) = ∑ T : Fin 8192, kdn m c T i0 * (aX m c (ix2 T i0) * rs fun l => aX m c (ix2 T l))).trans rfl)
  rw [rdn_eq m m' c hX hN hG hU hD hO, hX, (rows_at m c fX fN fG fU fD fO T).1]
  exact mul_comm _ _

end Cert.KernelIdeal.Value
-- ==== Proof.Wgrad.Same.lean ====
/- The machine-float program and its ideal copy have one text. Here they are shown to be one program for every float
values `F`, so that one run serves both frames: the region body, the procedures and the host program in turn. -/
module

public import proofs.«01_k».proof.Proof.Gen.Kernel2
public import proofs.«01_k».proof.Proof.Gen.Kernel2Ideal

@[expose] public section

set_option maxRecDepth 16384
set_option maxHeartbeats 4000000

noncomputable section

namespace Cert.Wgrad

open Idealize.ShloMosaic

variable {F : FTy → Type} [FloatOps F]

theorem same_bodies : @Cert.Kernel2.defs₀ F _ Cert.Kernel2.Gen.facts = @Cert.Kernel2Ideal.defs₀ F _ Cert.Kernel2Ideal.Gen.facts := by
  unfold Cert.Kernel2.defs₀ Cert.Kernel2Ideal.defs₀
  refine congrArg Defs.onTc ?_
  funext k x
  match k, x with
  | 0, (t, s) => exact rfl

theorem same_defs : @Cert.Kernel2Ideal.defs F _ Cert.Kernel2Ideal.Gen.facts = @Cert.Kernel2.defs F _ Cert.Kernel2.Gen.facts :=
  congrArg (Pipeline.defs (@Cert.Kernel2Ideal.pcfgs F _)) same_bodies.symm

theorem same_main : @Cert.Kernel2Ideal.main F _ Cert.Kernel2Ideal.Gen.facts = @Cert.Kernel2.main F _ Cert.Kernel2.Gen.facts := rfl

end Cert.Wgrad

end
-- ==== Proof.Wgrad.Point.lean ====
/- What every point leaves of a weight's gradient: the sum of the blocks of rows so far. -/
module

public import proofs.«01_k».proof.Proof.Gen.Kernel2Ideal.Value
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

/-- What a block of 1024 rows adds to the product at one place: chunk `n / 256` of the operand's columns, column `n % 256` in it. -/
def blockAt (x0 : Vec Ideal S11x1024x256 .bf16) (x1 : Vec Ideal S1024x1024 .bf16) (n : Fin 2816) (k : Fin 1024) : EReal :=
  ∑ q : Fin 1024, (show EReal from x0 (ix3 (⟨n.val / 256, by omega⟩ : Fin 11) q (⟨n.val % 256, by omega⟩ : Fin 256))) * x1 (ix2 q k)

/-- The sum after a block of rows, from the sum before it. -/
def step (p : Vec Ideal S2816x1024 .f32) (x0 : Vec Ideal S11x1024x256 .bf16) (x1 : Vec Ideal S1024x1024 .bf16) : Vec Ideal S2816x1024 .f32 :=
  fun i => (show EReal from p i) + blockAt x0 x1 (i 0) (i 1)

/-- One chunk's 256 rows of the result: what was there, plus the chunk's product. -/
theorem chunk_row (A : Vec Ideal S256x1024 .f32) (x0 : Vec Ideal S11x1024x256 .bf16) (x1 : Vec Ideal S1024x1024 .bf16) (a : ℕ)
    (ha : a < 11) (inb3 : ∀ d, (![a, 0, 0] : Fin 3 → ℕ) d + (![1, 1024, 256] : Fin 3 → ℕ) d ≤ S11x1024x256.size d) (r : Fin 256) (k : Fin 1024) :
    k0_pay2 A (View.ld x0 (Rect.unit (s := S11x1024x256) ![a, 0, 0] ![1, 1024, 256] inb3)) x1 (ix2 r k)
      = (show EReal from A (ix2 r k)) + ∑ q : Fin 1024, (show EReal from x0 (ix3 (⟨a, ha⟩ : Fin 11) q r)) * x1 (ix2 q k) := by
  unfold k0_pay2
  pointwise

theorem blockAt_chunk (x0 : Vec Ideal S11x1024x256 .bf16) (x1 : Vec Ideal S1024x1024 .bf16) (a : ℕ) (ha : a < 11) (r : Fin 256) (k : Fin 1024)
    (n : Fin 2816) (k' : Fin 1024) (hn : n.val = a * 256 + r.val) (hk : k'.val = k.val) :
    blockAt x0 x1 n k' = ∑ q : Fin 1024, (show EReal from x0 (ix3 (⟨a, ha⟩ : Fin 11) q r)) * x1 (ix2 q k) := by
  obtain rfl : k' = k := Fin.ext hk
  have e1 : (⟨n.val / 256, by omega⟩ : Fin 11) = ⟨a, ha⟩ := Fin.ext (by show n.val / 256 = a; omega)
  have e2 : (⟨n.val % 256, by omega⟩ : Fin 256) = r := Fin.ext (by show n.val % 256 = r.val; omega)
  unfold blockAt
  rw [e1, e2]

theorem piece (p : Vec Ideal S2816x1024 .f32) (x0 : Vec Ideal S11x1024x256 .bf16) (x1 : Vec Ideal S1024x1024 .bf16) (a o : ℕ)
    (ha : a < 11) (ho : o = a * 256) (inb3 : ∀ d, (![a, 0, 0] : Fin 3 → ℕ) d + (![1, 1024, 256] : Fin 3 → ℕ) d ≤ S11x1024x256.size d)
    (inb : ∀ d, (![o, 0] : Fin 2 → ℕ) d + (![256, 1024] : Fin 2 → ℕ) d ≤ S2816x1024.size d) (A : Vec Ideal S256x1024 .f32)
    (hA : ∀ x, A x = p ((Rect.unit (s := S2816x1024) ![o, 0] ![256, 1024] inb).emb x))
    {L : List (View.Piece (Elt Ideal) S2816x1024 .f32)} (hL : View.PiecesOf (step p x0 x1) L) :
    View.PiecesOf (step p x0 x1) (⟨Rect.unit (s := S2816x1024) ![o, 0] ![256, 1024] inb,
      k0_pay2 A (View.ld x0 (Rect.unit (s := S11x1024x256) ![a, 0, 0] ![1, 1024, 256] inb3)) x1⟩ :: L) := by
  refine ⟨fun y => ?_, hL⟩
  idx_vars y
  refine (chunk_row A x0 x1 a ha inb3 y0 y1).trans ?_
  refine congrArg₂ (· + ·) (hA _) (blockAt_chunk x0 x1 a ha y0 y1 _ _ ?_ ?_).symm
  · show o + 1 * y0.val = _; omega
  · show 0 + 1 * y1.val = _; omega

theorem pieces_nil {s : Shape} {e : EltTy} {W : s.Idx → Elt Ideal e} : View.PiecesOf (Val := Elt Ideal) W [] := trivial

/-- Nothing, to begin with. -/
def none0 : Vec Ideal S2816x1024 .f32 := fun _ => (0 : EReal)

theorem zero_part (v : View sig .tc .vmem S2816x1024 .f32) (o : ℕ) (inb) (inb0) (y : S256x1024.Idx) :
    v.readCov (Val := Elt Ideal) [⟨Rect.unit (s := S2816x1024) ![0, 0] ![2816, 1024] inb0, k0_pay3 (F := Ideal)⟩]
      (Rect.unit (s := S2816x1024) ![o, 0] ![256, 1024] inb).toLoadRect y = (0 : EReal) := by
  rw [View.readCov_eq_canon', View.canon_unit_zero (h := by funext d; fin_cases d <;> rfl)]
  show k0_pay3 (F := Ideal) ((Rect.unit (s := S2816x1024) ![o, 0] ![256, 1024] inb).idx y) = _
  unfold k0_pay3
  pointwise

/-- The rows of one chunk. -/
def Rows256 (o : ℕ) (y : S2816x1024.Idx) : Prop :=
  ∀ inb : ∀ d, (![o, 0] : Fin 2 → ℕ) d + (![256, 1024] : Fin 2 → ℕ) d ≤ S2816x1024.size d,
    y ∈ (Rect.unit (s := S2816x1024) ![o, 0] ![256, 1024] inb).set

theorem rows_of (o : ℕ) (ho : o ≤ 2560) (y : S2816x1024.Idx) (h : o ≤ (y 0).val ∧ (y 0).val < o + 256) : Rows256 o y := by
  have h2 : (y 1).val < 1024 := (y 1).isLt
  exact fun inb => Rect.mem_set_unit.mpr (Fin.forall_fin_two.mpr ⟨h, Nat.zero_le _, by show (y 1).val < 0 + 1024; omega⟩)

/-- Every row is in one of the eleven chunks. -/
theorem rows_all (y : S2816x1024.Idx) : Rows256 2560 y ∨ Rows256 2304 y ∨ Rows256 2048 y ∨ Rows256 1792 y ∨ Rows256 1536 y ∨ Rows256 1280 y
    ∨ Rows256 1024 y ∨ Rows256 768 y ∨ Rows256 512 y ∨ Rows256 256 y ∨ Rows256 0 y := by
  have h1 : (y 0).val < 2816 := (y 0).isLt
  by_contra hn
  simp only [not_or] at hn
  obtain ⟨h10, h9, h8, h7, h6, h5, h4, h3, h2, h1', h0⟩ := hn
  have g10 := mt (rows_of 2560 (by decide) y) h10
  have g9 := mt (rows_of 2304 (by decide) y) h9
  have g8 := mt (rows_of 2048 (by decide) y) h8
  have g7 := mt (rows_of 1792 (by decide) y) h7
  have g6 := mt (rows_of 1536 (by decide) y) h6
  have g5 := mt (rows_of 1280 (by decide) y) h5
  have g4 := mt (rows_of 1024 (by decide) y) h4
  have g3 := mt (rows_of 768 (by decide) y) h3
  have g2 := mt (rows_of 512 (by decide) y) h2
  have g1 := mt (rows_of 256 (by decide) y) h1'
  have g0 := mt (rows_of 0 (by decide) y) h0
  omega

theorem out_A (t : Fin cfg0.N) (h0 : t.val % 8 = 0) :
    outsAt0 m c t.val t.isLt = step none0 (iblk m c 0 t) (iblk m c 1 t) := by
  rw [outsAt0_A m c t h0]; frame_out
  simp (decide := true) only [↓View.readCov_skip, View.readCov_cons_toLoadRect, read_unread_whole]
  funext y
  refine View.canon_append_of_piecesOf (step none0 (iblk m c 0 t) (iblk m c 1 t)) [_] [_, _, _, _, _, _, _, _, _, _, _] ?_ y ?_
  · repeat refine piece none0 _ _ _ _ (by decide) (by rfl) _ _ _ (zero_part _ _ _ _) ?_
    exact pieces_nil
  · simp only [List.mem_cons, List.not_mem_nil, or_false, exists_eq_or_imp, exists_eq_left]
    exact (rows_all y).imp (· _) (.imp (· _) (.imp (· _) (.imp (· _) (.imp (· _) (.imp (· _) (.imp (· _) (.imp (· _) (.imp (· _) (.imp (· _) (· _))))))))))

theorem out_B (t : Fin cfg0.N) (h0 : ¬t.val % 8 = 0) :
    outsAt0 m c t.val t.isLt = step (outsAt0 m c (t.val - 1) (Nat.lt_of_le_of_lt (Nat.sub_le _ _) t.isLt)) (iblk m c 0 t) (iblk m c 1 t) := by
  rw [outsAt0_B m c t h0]; frame_out
  funext y
  refine (congrFun (congrArg View.canon (List.append_nil _).symm) y).trans
    (View.canon_append_of_piecesOf (step (outsAt0 m c (t.val - 1) _) (iblk m c 0 t) (iblk m c 1 t)) [] _ ?_ y ?_)
  · repeat refine piece _ _ _ _ _ (by decide) (by rfl) _ _ _ (fun _ => rfl) ?_
    exact pieces_nil
  · simp only [List.mem_cons, List.not_mem_nil, or_false, exists_eq_or_imp, exists_eq_left]
    exact (rows_all y).imp (· _) (.imp (· _) (.imp (· _) (.imp (· _) (.imp (· _) (.imp (· _) (.imp (· _) (.imp (· _) (.imp (· _) (.imp (· _) (· _))))))))))

/-- After a point: the sum of the blocks so far. -/
theorem out_acc (n : ℕ) (h : n < 8) (r : Fin 2816) (k : Fin 1024) :
    outsAt0 m c n h (ix2 r k) = ∑ s : Fin (n + 1), blockAt (iblk m c 0 ⟨s.val, lt_of_lt_of_le s.isLt (Nat.succ_le_of_lt h)⟩)
      (iblk m c 1 ⟨s.val, lt_of_lt_of_le s.isLt (Nat.succ_le_of_lt h)⟩) r k := by
  induction n with
  | zero =>
    rw [Fin.sum_univ_one]
    exact (congrFun (out_A m c ⟨0, h⟩ rfl) (ix2 r k)).trans (zero_add _)
  | succ n ih =>
    rw [Fin.sum_univ_castSucc]
    refine (congrFun (out_B m c ⟨n + 1, h⟩ (by show ¬(n + 1) % 8 = 0; omega)) (ix2 r k)).trans ?_
    exact congrArg₂ (· + ·) (ih (by omega)) rfl

end Cert.Kernel2Ideal.Value

end
-- ==== Proof.Wgrad.Equal.lean ====
/- The weight's gradient as one product over all rows, and that it is the reference's. -/
module

public import proofs.«01_k».proof.Proof.Wgrad.Point
public import proofs.«01_k».proof.Proof.Gen.Reference2Ideal.Run

@[expose] public section

set_option maxRecDepth 16384

noncomputable section

open Idealize.ShloMosaic Idealize.ShloMosaic.TcCoe Idealize.SL.Sem
open Idealize.ShloMosaic.Pipeline (Dat)

namespace Cert.Kernel2Ideal.Value
open Cert.Kernel2Ideal Cert.Kernel2Ideal.Gen

variable (m : (ℓ : Loc nD τ sig) → Buf (Elt Ideal) ℓ) (c : Dev nD)

/-- Where every window's block lies, at every point. -/
theorem idx : ∀ t : Fin cfg0.N, win0_0.index t = ![0, t.val, 0] ∧ win0_1.index t = ![t.val, 0] ∧ win0_2.index t = ![0, 0] :=
  (by decide +kernel : ∀ t : Fin grid0.N, _)

/-- The operand's rows and the rows that arrive. -/
def aH : FVec Ideal S8192x2816 .f32 := m ((c : Thread nD τ).loc main_arg0)
def aO : FVec Ideal S8192x1024 .f32 := m ((c : Thread nD τ).loc main_arg1)

/-- The place of a block's row in the whole array. -/
def row (t : Fin cfg0.N) (q : Fin 1024) : Fin 8192 := ⟨t.val * 1024 + q.val, by have : t.val < 8 := t.isLt; omega⟩

theorem blk0 (t : Fin cfg0.N) (a : Fin 11) (q : Fin 1024) (r : Fin 256) :
    iblk m c 0 t (ix3 a q r) = aH m c (ix2 (row t q) ⟨a.val * 256 + r.val, by omega⟩) := by
  unfold aH row
  blk_point [iblk, V, idx t]

theorem blk1 (t : Fin cfg0.N) (q : Fin 1024) (k : Fin 1024) : iblk m c 1 t (ix2 q k) = aO m c (ix2 (row t q) k) := by
  unfold aO row
  blk_point [iblk, V, idx t]

/-- The weight's gradient: over all rows, the operand's entry times the arriving one. -/
def gw : FVec Ideal S2816x1024 .f32 := fun i => ∑ T : Fin 8192, (show EReal from aH m c (ix2 T (i 0))) * aO m c (ix2 T (i 1))

theorem blockAt_eq (t : Fin cfg0.N) (n : Fin 2816) (k : Fin 1024) : blockAt (iblk m c 0 t) (iblk m c 1 t) n k
    = ∑ q : Fin 1024, (show EReal from aH m c (ix2 (row t q) n)) * aO m c (ix2 (row t q) k) := by
  unfold blockAt
  refine Finset.sum_congr rfl fun q _ => ?_
  rw [blk0, blk1]
  have e : (⟨n.val / 256 * 256 + n.val % 256, by omega⟩ : Fin 2816) = n := Fin.ext (by show n.val / 256 * 256 + n.val % 256 = n.val; omega)
  exact congrArg (fun n' => (show EReal from aH m c (ix2 (row t q) n')) * aO m c (ix2 (row t q) k)) e

/-- What the last point leaves. -/
theorem out_last (n : ℕ) (h : n < 8) (hn : n = 7) (r : Fin 2816) (k : Fin 1024) : outsAt0 m c n h (ix2 r k) = gw m c (ix2 r k) := by
  subst hn
  refine (out_acc m c 7 h r k).trans ((Finset.sum_congr rfl fun s _ => blockAt_eq m c _ r k).trans ?_)
  exact (Fin.sum_univ_tiles 8 1024 rfl fun T => (show EReal from aH m c (ix2 T r)) * aO m c (ix2 T k)).symm

theorem arr2 : (dats m 0 c).arrAt 2 cfg0.N = gw m c := by
  refine (dats m 0 c).arrAt_eq_of_covers 2 _ (by decide +kernel) fun t hf y => ?_
  have ht : t.val = 7 := by
    have h1 := (flush0_2 t).mp hf
    have h2 : t.val < 8 := t.isLt
    omega
  blk_simp
  rw [after0_2]
  idx_vars y
  refine (out_last m c t.val t.isLt ht y0 y1).trans ?_
  generalize gw m c = A
  blk_ext [idx t]

/-- The reference's result is the kernel's. -/
theorem equal (ht : Cert.Reference2Ideal.S1024x2816.Transposes [1, 0] Cert.Reference2Ideal.S2816x1024) (h : FVec Ideal S8192x2816 .f32) (d : FVec Ideal S8192x1024 .f32) (hH : h = aH m c) (hO : d = aO m c) :
    transpose Cert.Reference2Ideal.S2816x1024 [1, 0] (Host.dotGeneral (F := Ideal) Cert.Reference2Ideal.dot_S8192x1024_S8192x2816_S1024x2816_0_0_1_1_n_n none d h)
      ht = gw m c := by
  subst hH hO
  funext i
  idx_vars i
  pointwise
  exact Finset.sum_congr rfl fun T _ => mul_comm _ _

/-- The whole run: the result, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v4) = gw m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr2 m c), (h c).2⟩) (run_blocks m ρ)

end Cert.Kernel2Ideal.Value

end
-- ==== Proof.Fwd.RunA.lean ====
/- The whole body's run at the first point, which copies the weights in: the triple `kernelRun0_A` of `Cert.Kernel3Ideal`, found by running the
   body's skeleton, with the pieces each output and each weight buffer ends with as its witness. -/
module

public import proofs.«01_k».proof.Proof.Gen.Kernel3Ideal.Frame.Runs

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 2424000 in
/-- What the body's stores leave in each output's staging memref, as pieces (last first) IN CASE A (`scf.if` 0 taken, `scf.if` 1 taken, `scf.if` 2 not taken: points 0), WITH the
    proof that on whole staging memrefs — the inputs' at their contents, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : cond0_0 i) (hc1 : cond0_1 i) (hc2 : ¬cond0_2 i)
    (x0 : Vec F S512x1024 .f32) (x1 : Vec F S1x1024 .f32) (x2 : Vec F S512x1024 .f32) (x3 : Vec F S1x1024 .f32) (fh0 : HbBuf0 (F := F) c hbM0_0) :
    Σ' (L4 : List (View.Piece (Elt F) S512x1024 .f32)), Σ' (L5 : List (View.Piece (Elt F) S11x512x256 .bf16)), Σ' (L6 : List (View.Piece (Elt F) S11x512x256 .bf16)), Σ' (L7 : List (View.Piece (Elt F) S512x1024 .bf16)), Σ' (L8 : List (View.Piece (Elt F) S8x1024 .f32)), Σ' (L9 : List (View.Piece (Elt F) S8x128 .f32)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0) ∗ (∃ f, arg13.view.loc (c : Thread nD τ) ↦[arg13.view.set]{fullShare} arg13.view.writes (Elt F) f LS1) ∗ (∃ f, arg14.view.loc (c : Thread nD τ) ↦[arg14.view.set]{fullShare} arg14.view.writes (Elt F) f LS2) ∗ (∃ f, arg15.view.loc (c : Thread nD τ) ↦[arg15.view.set]{fullShare} arg15.view.writes (Elt F) f LT3) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0_ffn2_fwd i arg1 harg1 arg2 harg2 (Memref.whole main_v10) (Memref.isWhole_whole _) arg4 harg4 arg5 harg5 arg6 harg6 arg7 harg7 arg8 harg8 arg9 harg9 arg10 harg10 arg11 harg11 arg12 harg12 arg13 harg13 arg14 harg14 arg15 harg15 cc0_scratch4) K } := by
  refine ⟨?_, ?_, ?_, ?_, ?_, ?_, ?_, ?_, ?_, ?_, fun W K => ?run⟩
  case run =>
    simp only [cc0_ffn2_fwd_eq_skeleton]; unfold cc0_ffn2_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg4.eq_unread hf2; obtain rfl := harg5.eq_unread hf3
    set_option sl_exec.dmaWindow true in
    set_option sl_exec.dmaWindowSet true in
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HS2]; · iexists _; iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel3Ideal.Gen

end
-- ==== Proof.Fwd.RunB.lean ====
/- The whole body's run at a middle point: the triple `kernelRun0_B` of `Cert.Kernel3Ideal`, found by running the
   body's skeleton, with the pieces each output and each weight buffer ends with as its witness. -/
module

public import proofs.«01_k».proof.Proof.Fwd.RunA

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE B (`scf.if` 0 not taken, `scf.if` 1 not taken, `scf.if` 2 not taken: points 1, 2, … 14: 14 of 16), WITH the
    proof that on whole staging memrefs — the inputs' at their contents, the outputs it reads before covering (8, 9) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : ¬cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) :
    Σ' (L4 : List (View.Piece (Elt F) S512x1024 .f32)), Σ' (L5 : List (View.Piece (Elt F) S11x512x256 .bf16)), Σ' (L6 : List (View.Piece (Elt F) S11x512x256 .bf16)), Σ' (L7 : List (View.Piece (Elt F) S512x1024 .bf16)), Σ' (L8 : List (View.Piece (Elt F) S8x1024 .f32)), Σ' (L9 : List (View.Piece (Elt F) S8x128 .f32)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8 ∗ owns (c : Thread nD τ) arg11 fullShare xo9 ∗ owns (c : Thread nD τ) arg12 fullShare xs0 ∗ owns (c : Thread nD τ) arg13 fullShare xs1 ∗ owns (c : Thread nD τ) arg14 fullShare xs2 ∗ (∃ d, owns (c : Thread nD τ) arg15 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LT3) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0_ffn2_fwd i arg1 harg1 arg2 harg2 (Memref.whole main_v10) (Memref.isWhole_whole _) arg4 harg4 arg5 harg5 arg6 harg6 arg7 harg7 arg8 harg8 arg9 harg9 arg10 harg10 arg11 harg11 arg12 harg12 arg13 harg13 arg14 harg14 arg15 harg15 cc0_scratch4) K } := by
  refine ⟨?_, ?_, ?_, ?_, ?_, ?_, [], [], [], ?_, fun W K => ?run⟩
  case run =>
    simp only [cc0_ffn2_fwd_eq_skeleton]; unfold cc0_ffn2_fwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg4.eq_unread hf2; obtain rfl := harg5.eq_unread hf3; obtain rfl := harg10.eq_unread hf8; obtain rfl := harg11.eq_unread hf9; obtain rfl := harg12.eq_unread hfs0; obtain rfl := harg13.eq_unread hfs1; obtain rfl := harg14.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel3Ideal.Gen

end
-- ==== Proof.Fwd.RunC.lean ====
/- The whole body's run at the last point, which folds the gain gradient: the triple `kernelRun0_C` of `Cert.Kernel3Ideal`, found by running the
   body's skeleton, with the pieces each output and each weight buffer ends with as its witness. -/
module

public import proofs.«01_k».proof.Proof.Fwd.RunB

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1200000 in
/-- What the body's stores leave in each output's staging memref, as pieces (last first) IN CASE C (`scf.if` 0 not taken, `scf.if` 1 not taken, `scf.if` 2 taken: points 15), WITH the
    proof that on whole staging memrefs — the inputs' at their contents, the outputs it reads before covering (8, 9) at their running contents `xo·`, the other outputs' at
    anything, a carried scratch at the contents the point before left (`xs·`) or at anything, the other scratch at anything, the HBM operands it copies whole at their launch contents `fh·`, its DMA cells at zero and the core's `owes`, the body runs to the continuation holding the inputs' as they were,
    a carried scratch it stored into with its pieces written (`LS·`), a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) :
    Σ' (L4 : List (View.Piece (Elt F) S512x1024 .f32)), Σ' (L5 : List (View.Piece (Elt F) S11x512x256 .bf16)), Σ' (L6 : List (View.Piece (Elt F) S11x512x256 .bf16)), Σ' (L7 : List (View.Piece (Elt F) S512x1024 .bf16)), Σ' (L8 : List (View.Piece (Elt F) S8x1024 .f32)), Σ' (L9 : List (View.Piece (Elt F) S8x128 .f32)), Σ' (LS0 : List (View.Piece (Elt F) S2816x1024 .bf16)), Σ' (LS1 : List (View.Piece (Elt F) S2816x1024 .bf16)), Σ' (LS2 : List (View.Piece (Elt F) S2816x1024 .bf16)), { LT3 : List (View.Piece (Elt F) S512x1024 .f32) //
      ∀ (W : Waits sig Unit) (K : PUnit → sProp 𝕄),
        iprop(owns (c : Thread nD τ) arg1 fullShare x0 ∗ owns (c : Thread nD τ) arg2 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xo8 ∗ owns (c : Thread nD τ) arg11 fullShare xo9 ∗ owns (c : Thread nD τ) arg12 fullShare xs0 ∗ owns (c : Thread nD τ) arg13 fullShare xs1 ∗ owns (c : Thread nD τ) arg14 fullShare xs2 ∗ (∃ d, owns (c : Thread nD τ) arg15 fullShare d) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ owns (c : Thread nD τ) arg12 fullShare xs0 ∗ owns (c : Thread nD τ) arg13 fullShare xs1 ∗ owns (c : Thread nD τ) arg14 fullShare xs2 ∗ (∃ f, arg15.view.loc (c : Thread nD τ) ↦[arg15.view.set]{fullShare} arg15.view.writes (Elt F) f LT3) ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ hbPt0 c hbM0_0 fh0 ∗ (∃ W', owes (c : Thread nD τ) 0 W')) -∗ K ⟨⟩))
          ⊢ wp frame (wpE (defs₀ (F := F)) Variants.none c none) Set.univ (cc0_ffn2_fwd i arg1 harg1 arg2 harg2 (Memref.whole main_v10) (Memref.isWhole_whole _) arg4 harg4 arg5 harg5 arg6 harg6 arg7 harg7 arg8 harg8 arg9 harg9 arg10 harg10 arg11 harg11 arg12 harg12 arg13 harg13 arg14 harg14 arg15 harg15 cc0_scratch4) K } := by
  refine ⟨?_, ?_, ?_, ?_, ?_, ?_, [], [], [], ?_, fun W K => ?run⟩
  case run =>
    simp only [cc0_ffn2_fwd_eq_skeleton]; unfold cc0_ffn2_fwd_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%f8, %hf8, H8⟩, ⟨%f9, %hf9, H9⟩, ⟨%fs0, %hfs0, HS0⟩, ⟨%fs1, %hfs1, HS1⟩, ⟨%fs2, %hfs2, HS2⟩, ⟨%ds3, %fs3, -, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, HW, Hk⟩
    obtain rfl := harg1.eq_unread hf0; obtain rfl := harg2.eq_unread hf1; obtain rfl := harg4.eq_unread hf2; obtain rfl := harg5.eq_unread hf3; obtain rfl := harg10.eq_unread hf8; obtain rfl := harg11.eq_unread hf9; obtain rfl := harg12.eq_unread hfs0; obtain rfl := harg13.eq_unread hfs1; obtain rfl := harg14.eq_unread hfs2
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [HS0]
    · iexists _; isplitr; · ipureintro; exact harg12.read_unread _
      iexact HS0
    isplitl [HS1]
    · iexists _; isplitr; · ipureintro; exact harg13.read_unread _
      iexact HS1
    isplitl [HS2]
    · iexists _; isplitr; · ipureintro; exact harg14.read_unread _
      iexact HS2
    isplitl [HS3]; · iexists _; iexact HS3
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hh0]; · iexact Hh0
    iexists _; iexact HW

end Cert.Kernel3Ideal.Gen

end
-- ==== Proof.Fwd.Outs.lean ====
/- What the body leaves in each output's block and in the weight buffers, case by case. -/
module

public import proofs.«01_k».proof.Proof.Fwd.RunC
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : cond0_0 i) (hc1 : cond0_1 i) (hc2 : ¬cond0_2 i)
  (x0 : Vec F S512x1024 .f32) (x1 : Vec F S1x1024 .f32) (x2 : Vec F S512x1024 .f32) (x3 : Vec F S1x1024 .f32) (fh0 : HbBuf0 (F := F) c hbM0_0)

/-- Case A's pieces for output 4 tile its block, so they cover it. -/
theorem cover0_A_4 (y : S512x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).1 S512x1024.size (by sl_kernel_rfl) y

/-- What case A leaves in output 4's staging buffer: its pieces read back over junk. -/
def out0_A_4 : Vec F S512x1024 .f32 :=
  VO0_4.read (Elt F) (VO0_4.writes (Elt F) VO0_4.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).1)

/-- Case A's pieces for output 5 tile its block, so they cover it. -/
theorem cover0_A_5 (y : S11x512x256.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.1 S1x512x256.size (by sl_kernel_rfl) y

/-- What case A leaves in output 5's staging buffer: its pieces read back over junk. -/
def out0_A_5 : Vec F S11x512x256 .bf16 :=
  VO0_5.read (Elt F) (VO0_5.writes (Elt F) VO0_5.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.1)

/-- Case A's pieces for output 6 tile its block, so they cover it. -/
theorem cover0_A_6 (y : S11x512x256.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.1 S1x512x256.size (by sl_kernel_rfl) y

/-- What case A leaves in output 6's staging buffer: its pieces read back over junk. -/
def out0_A_6 : Vec F S11x512x256 .bf16 :=
  VO0_6.read (Elt F) (VO0_6.writes (Elt F) VO0_6.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.1)

/-- Case A's pieces for output 7 tile its block, so they cover it. -/
theorem cover0_A_7 (y : S512x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.1 S512x1024.size (by sl_kernel_rfl) y

/-- What case A leaves in output 7's staging buffer: its pieces read back over junk. -/
def out0_A_7 : Vec F S512x1024 .bf16 :=
  VO0_7.read (Elt F) (VO0_7.writes (Elt F) VO0_7.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.1)

/-- Case A's pieces for output 8 tile its block, so they cover it. -/
theorem cover0_A_8 (y : S8x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.1 S8x1024.size (by sl_kernel_rfl) y

/-- What case A leaves in output 8's staging buffer: its pieces read back over junk. -/
def out0_A_8 : Vec F S8x1024 .f32 :=
  VO0_8.read (Elt F) (VO0_8.writes (Elt F) VO0_8.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.1)

/-- Case A's pieces for output 9 tile its block, so they cover it. -/
theorem cover0_A_9 (y : S8x128.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.1 S8x128.size (by sl_kernel_rfl) y

/-- What case A leaves in output 9's staging buffer: its pieces read back over junk. -/
def out0_A_9 : Vec F S8x128 .f32 :=
  VO0_9.read (Elt F) (VO0_9.writes (Elt F) VO0_9.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.1)

/-- Case A's pieces for scratch `arg12`, which the kernel carries between points, cover it: 8 pieces of `S352x1024` tiling it (Lib/Ring.lean `Piece.tiledL`). -/
theorem scover0_A_0 (y : S2816x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.1 S352x1024.size (by sl_kernel_rfl) y

/-- What case A leaves in scratch `arg12`: its pieces read back over junk. -/
def sout0_A_0 : Vec F S2816x1024 .bf16 :=
  VS0_0.read (Elt F) (VS0_0.writes (Elt F) VS0_0.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.1)

/-- Case A's pieces for scratch `arg13`, which the kernel carries between points, cover it: 8 pieces of `S352x1024` tiling it (Lib/Ring.lean `Piece.tiledL`). -/
theorem scover0_A_1 (y : S2816x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.1 S352x1024.size (by sl_kernel_rfl) y

/-- What case A leaves in scratch `arg13`: its pieces read back over junk. -/
def sout0_A_1 : Vec F S2816x1024 .bf16 :=
  VS0_1.read (Elt F) (VS0_1.writes (Elt F) VS0_1.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.1)

/-- Case A's pieces for scratch `arg14`, which the kernel carries between points, cover it: 8 pieces of `S352x1024` tiling it (Lib/Ring.lean `Piece.tiledL`). -/
theorem scover0_A_2 (y : S2816x1024.Idx) :
    ∃ pc ∈ (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.2.1, y ∈ pc.1.set :=
  View.cover_of_tiledL (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.2.1 S352x1024.size (by sl_kernel_rfl) y

/-- What case A leaves in scratch `arg14`: its pieces read back over junk. -/
def sout0_A_2 : Vec F S2816x1024 .bf16 :=
  VS0_2.read (Elt F) (VS0_2.writes (Elt F) VS0_2.junk (kernelRun0_A c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 fh0).2.2.2.2.2.2.2.2.1)

end

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : ¬cond0_2 i)
  (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0)

/-- Case B's pieces for output 4 tile its block, so they cover it. -/
theorem cover0_B_4 (y : S512x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1 S512x1024.size (by sl_kernel_rfl) y

/-- What case B leaves in output 4's staging buffer: its pieces read back over junk. -/
def out0_B_4 : Vec F S512x1024 .f32 :=
  VO0_4.read (Elt F) (VO0_4.writes (Elt F) VO0_4.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1)

/-- Case B's pieces for output 5 tile its block, so they cover it. -/
theorem cover0_B_5 (y : S11x512x256.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1 S1x512x256.size (by sl_kernel_rfl) y

/-- What case B leaves in output 5's staging buffer: its pieces read back over junk. -/
def out0_B_5 : Vec F S11x512x256 .bf16 :=
  VO0_5.read (Elt F) (VO0_5.writes (Elt F) VO0_5.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1)

/-- Case B's pieces for output 6 tile its block, so they cover it. -/
theorem cover0_B_6 (y : S11x512x256.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1 S1x512x256.size (by sl_kernel_rfl) y

/-- What case B leaves in output 6's staging buffer: its pieces read back over junk. -/
def out0_B_6 : Vec F S11x512x256 .bf16 :=
  VO0_6.read (Elt F) (VO0_6.writes (Elt F) VO0_6.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1)

/-- Case B's pieces for output 7 tile its block, so they cover it. -/
theorem cover0_B_7 (y : S512x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1 S512x1024.size (by sl_kernel_rfl) y

/-- What case B leaves in output 7's staging buffer: its pieces read back over junk. -/
def out0_B_7 : Vec F S512x1024 .bf16 :=
  VO0_7.read (Elt F) (VO0_7.writes (Elt F) VO0_7.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1)

/-- Case B's pieces for output 8 tile its block, so they cover it. -/
theorem cover0_B_8 (y : S8x1024.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1 S8x1024.size (by sl_kernel_rfl) y

/-- What case B leaves in output 8's staging buffer: its pieces read back over junk. -/
def out0_B_8 : Vec F S8x1024 .f32 :=
  VO0_8.read (Elt F) (VO0_8.writes (Elt F) VO0_8.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1)

/-- Case B's pieces for output 9 tile its block, so they cover it. -/
theorem cover0_B_9 (y : S8x128.Idx) :
    ∃ pc ∈ (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1, y ∈ pc.1.set :=
  View.cover_of_tiledL (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1 S8x128.size (by sl_kernel_rfl) y

/-- What case B leaves in output 9's staging buffer: its pieces read back over junk. -/
def out0_B_9 : Vec F S8x128 .f32 :=
  VO0_9.read (Elt F) (VO0_9.writes (Elt F) VO0_9.junk (kernelRun0_B c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1)

/-- Case B stores nothing into scratch `arg12`: it holds what the point before left. -/
def sout0_B_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : ¬cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs0

/-- Case B stores nothing into scratch `arg13`: it holds what the point before left. -/
def sout0_B_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : ¬cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs1

/-- Case B stores nothing into scratch `arg14`: it holds what the point before left. -/
def sout0_B_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : ¬cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs2

end

section
variable (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : cond0_2 i)
  (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0)

/-- Case C's pieces for output 4 tile its block, so they cover it. -/
theorem cover0_C_4 (y : S512x1024.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1, y ∈ pc.1.set :=
  View.cover_of_tiledL (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1 S512x1024.size (by sl_kernel_rfl) y

/-- What case C leaves in output 4's staging buffer: its pieces read back over junk. -/
def out0_C_4 : Vec F S512x1024 .f32 :=
  VO0_4.read (Elt F) (VO0_4.writes (Elt F) VO0_4.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).1)

/-- Case C's pieces for output 5 tile its block, so they cover it. -/
theorem cover0_C_5 (y : S11x512x256.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1, y ∈ pc.1.set :=
  View.cover_of_tiledL (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1 S1x512x256.size (by sl_kernel_rfl) y

/-- What case C leaves in output 5's staging buffer: its pieces read back over junk. -/
def out0_C_5 : Vec F S11x512x256 .bf16 :=
  VO0_5.read (Elt F) (VO0_5.writes (Elt F) VO0_5.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.1)

/-- Case C's pieces for output 6 tile its block, so they cover it. -/
theorem cover0_C_6 (y : S11x512x256.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1, y ∈ pc.1.set :=
  View.cover_of_tiledL (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1 S1x512x256.size (by sl_kernel_rfl) y

/-- What case C leaves in output 6's staging buffer: its pieces read back over junk. -/
def out0_C_6 : Vec F S11x512x256 .bf16 :=
  VO0_6.read (Elt F) (VO0_6.writes (Elt F) VO0_6.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.1)

/-- Case C's pieces for output 7 tile its block, so they cover it. -/
theorem cover0_C_7 (y : S512x1024.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1, y ∈ pc.1.set :=
  View.cover_of_tiledL (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1 S512x1024.size (by sl_kernel_rfl) y

/-- What case C leaves in output 7's staging buffer: its pieces read back over junk. -/
def out0_C_7 : Vec F S512x1024 .bf16 :=
  VO0_7.read (Elt F) (VO0_7.writes (Elt F) VO0_7.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.1)

/-- Case C's pieces for output 8 are of SEVERAL sizes (2 stores of `S1x1024`, `S8x1024`): cut into blocks of `![1, 1024]` they tile its block (checked by the kernel's evaluation: Lib/Ring.lean `Piece.tiledBy`), so they cover it. -/
theorem cover0_C_8 (y : S8x1024.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1, y ∈ pc.1.set :=
  View.cover_of_tiledBy (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1 ![1, 1024] (by sl_kernel_rfl) y

/-- What case C leaves in output 8's staging buffer: its pieces read back over junk. -/
def out0_C_8 : Vec F S8x1024 .f32 :=
  VO0_8.read (Elt F) (VO0_8.writes (Elt F) VO0_8.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.1)

/-- Case C's pieces for output 9 tile its block, so they cover it. -/
theorem cover0_C_9 (y : S8x128.Idx) :
    ∃ pc ∈ (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1, y ∈ pc.1.set :=
  View.cover_of_tiledL (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1 S8x128.size (by sl_kernel_rfl) y

/-- What case C leaves in output 9's staging buffer: its pieces read back over junk. -/
def out0_C_9 : Vec F S8x128 .f32 :=
  VO0_9.read (Elt F) (VO0_9.writes (Elt F) VO0_9.junk (kernelRun0_C c i arg1 harg1 arg2 harg2 arg4 harg4 arg5 harg5 arg6 harg6 arg7 harg7 arg8 harg8 arg9 harg9 arg10 harg10 arg11 harg11 arg12 harg12 arg13 harg13 arg14 harg14 arg15 harg15 hc0 hc1 hc2 x0 x1 x2 x3 xo8 xo9 xs0 xs1 xs2 fh0).2.2.2.2.2.1)

/-- Case C stores nothing into scratch `arg12`: it holds what the point before left. -/
def sout0_C_0 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs0

/-- Case C stores nothing into scratch `arg13`: it holds what the point before left. -/
def sout0_C_1 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs1

/-- Case C stores nothing into scratch `arg14`: it holds what the point before left. -/
def sout0_C_2 (c : Dev nD) (i : grid0.Coords) (arg1 : Memref sig .tc .vmem S512x1024 .f32) (harg1 : arg1.IsWhole) (arg2 : Memref sig .tc .vmem S1x1024 .f32) (harg2 : arg2.IsWhole) (arg4 : Memref sig .tc .vmem S512x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S11x512x256 .bf16) (harg7 : arg7.IsWhole) (arg8 : Memref sig .tc .vmem S11x512x256 .bf16) (harg8 : arg8.IsWhole) (arg9 : Memref sig .tc .vmem S512x1024 .bf16) (harg9 : arg9.IsWhole) (arg10 : Memref sig .tc .vmem S8x1024 .f32) (harg10 : arg10.IsWhole) (arg11 : Memref sig .tc .vmem S8x128 .f32) (harg11 : arg11.IsWhole) (arg12 : Memref sig .tc .vmem S2816x1024 .bf16) (harg12 : arg12.IsWhole) (arg13 : Memref sig .tc .vmem S2816x1024 .bf16) (harg13 : arg13.IsWhole) (arg14 : Memref sig .tc .vmem S2816x1024 .bf16) (harg14 : arg14.IsWhole) (arg15 : Memref sig .tc .vmem S512x1024 .f32) (harg15 : arg15.IsWhole) (hc0 : ¬cond0_0 i) (hc1 : ¬cond0_1 i) (hc2 : cond0_2 i)
    (x0 : Vec F S512x1024 .f32) (x1 : Vec F S1x1024 .f32) (x2 : Vec F S512x1024 .f32) (x3 : Vec F S1x1024 .f32) (xo8 : Vec F S8x1024 .f32) (xo9 : Vec F S8x128 .f32) (xs0 : Vec F S2816x1024 .bf16) (xs1 : Vec F S2816x1024 .bf16) (xs2 : Vec F S2816x1024 .bf16) (fh0 : HbBuf0 (F := F) c hbM0_0) : Vec F S2816x1024 .bf16 := xs2

/-! ## What the outputs hold after each point -/

end

end Cert.Kernel3Ideal.Gen

end
-- ==== Proof.Fwd.After.lean ====
/- What every point leaves in the outputs' blocks and in the weight buffers, by recursion on the point, and the run's data. -/
module

public import proofs.«01_k».proof.Proof.Fwd.Outs
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x1024 .f32 × Vec F S11x512x256 .bf16 × Vec F S11x512x256 .bf16 × Vec F S512x1024 .bf16 × Vec F S8x1024 .f32 × Vec F S8x128 .f32 × Vec F S2816x1024 .bf16 × Vec F S2816x1024 .bf16 × Vec F S2816x1024 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (Nat.zero_mod _)) (fun h => (fun h => by (try dsimp only at h); omega) ((hcond0_2 ⟨0, hn⟩).mp h)) (iblk m c 0 ⟨0, hn⟩) (iblk m c 1 ⟨0, hn⟩) (iblk m c 2 ⟨0, hn⟩) (iblk m c 3 ⟨0, hn⟩) (V m c main_v10))
  | n + 1, hn =>
    if h0 : (n + 1) % 16 = 0 then
      if h1 : (n + 1) % 16 = 0 then
        if h2 : (n + 1) % 16 = 15 then
          False.elim (by have hN : n + 1 < 16 := lt_of_lt_of_eq hn (show cfg0.N = 16 from N_0); omega)
        else
          (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (V m c main_v10))
      else
        False.elim (by have hN : n + 1 < 16 := lt_of_lt_of_eq hn (show cfg0.N = 16 from N_0); omega)
    else
      if h1 : (n + 1) % 16 = 0 then
        False.elim (by have hN : n + 1 < 16 := lt_of_lt_of_eq hn (show cfg0.N = 16 from N_0); omega)
      else
        if h2 : (n + 1) % 16 = 15 then
          (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10))
        else
          (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10), sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.2.2.1 (outsAt0 c n (Nat.lt_of_succ_lt hn)).2.2.2.2.2.1 (outsAt0 c n (Nat.lt_of_succ_lt hn)).2.2.2.2.2.2.1 (outsAt0 c n (Nat.lt_of_succ_lt hn)).2.2.2.2.2.2.2.1 (outsAt0 c n (Nat.lt_of_succ_lt hn)).2.2.2.2.2.2.2.2 (V m c main_v10))

/-- `outsAt0` at a point of case A: that case's contents. -/
theorem outsAt0_A (c : Dev nD) (t : Fin cfg0.N) (h0 : t.val % 16 = 0) (h1 : t.val % 16 = 0) (h2 : ¬t.val % 16 = 15) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (fun h => h2 ((hcond0_2 t).mp h)) (iblk m c 0 t) (iblk m c 1 t) (iblk m c 2 t) (iblk m c 3 t) (V m c main_v10)) := by
  obtain ⟨n, hn⟩ := t
  cases n with
  | zero => exact rfl
  | succ n => exact (dif_pos h0).trans ((dif_pos h1).trans ((dif_neg h2).trans rfl))

/-- `outsAt0` at a point of case B: that case's contents, over what the point before left. -/
theorem outsAt0_B (c : Dev nD) (t : Fin cfg0.N) (h0 : ¬t.val % 16 = 0) (h1 : ¬t.val % 16 = 0) (h2 : ¬t.val % 16 = 15) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10)) := by
  obtain ⟨n, hn⟩ := t
  cases n with
  | zero => exact (by exfalso; (try dsimp only at h0); exact absurd (Nat.zero_mod _) h0)
  | succ n => exact (dif_neg h0).trans ((dif_neg h1).trans ((dif_neg h2).trans rfl))

/-- `outsAt0` at a point of case C: that case's contents, over what the point before left. -/
theorem outsAt0_C (c : Dev nD) (t : Fin cfg0.N) (h0 : ¬t.val % 16 = 0) (h1 : ¬t.val % 16 = 0) (h2 : t.val % 16 = 15) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 (V m c main_v10)) := by
  obtain ⟨n, hn⟩ := t
  cases n with
  | zero => exact (by exfalso; (try dsimp only at h0); exact absurd (Nat.zero_mod _) h0)
  | succ n => exact (dif_neg h0).trans ((dif_neg h1).trans ((dif_pos h2).trans rfl))

/-- The region invariant before position `n` with a scratch the kernel CARRIES between points: before the first point the
    launch's invariant (Lib/Pipeline/Frame.lean `ΦD`: every scratch at anything, the own cells at zero, the HBM operands, the generator register); afterwards the same with each carried
    scratch at what the point before left in it (`outsAt0`'s scratch components), the others at anything. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2) ∗ (∃ d, owns (c : Thread nD τ) scM0_3 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v10)))

theorem PhiS_zero (c : Dev nD) (n : ℕ) (h : n ≤ cfg0.N) (hz : n = 0) : PhiS m c n h = Pipeline.ΦD osem0 spec0 H0 (V m) c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2.1) ∗ owns (c : Thread nD τ) scM0_2 fullShare ((outsAt0 m c n hn).2.2.2.2.2.2.2.2) ∗ (∃ d, owns (c : Thread nD τ) scM0_3 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v10))) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2.1) ∗ owns (c : Thread nD τ) scM0_2 fullShare ((outsAt0 m c (n - 1) (by omega)).2.2.2.2.2.2.2.2) ∗ (∃ d, owns (c : Thread nD τ) scM0_3 fullShare d)) ∗ (∃ r, prngReg c r) ∗ iprop(semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0) ∗ iprop(hbPt0 c hbM0_0 (V m c main_v10))) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
    | ⟨6, _⟩ => (outsAt0 m c t.val t.isLt).2.2.1
    | ⟨7, _⟩ => (outsAt0 m c t.val t.isLt).2.2.2.1
    | ⟨8, _⟩ => (outsAt0 m c t.val t.isLt).2.2.2.2.1
    | ⟨9, _⟩ => (outsAt0 m c t.val t.isLt).2.2.2.2.2.1
  Φ t := PhiS m c t.val (Nat.le_of_lt_succ t.isLt)
  q _ := fullShare
  owed _ := 0

end Cert.Kernel3Ideal.Gen

end
-- ==== Proof.Fwd.Frame.lean ====
/- The body's obligation at every point, the run of the whole program and its frame. -/
module

public import proofs.«01_k».proof.Proof.Fwd.After
public import Idealize.ShloMosaic.Lib.Claim

@[expose] public section

-- membership in a rectangle of production extents (`View.cover_of_tiled`): the elaborator's structural look
-- recurses once per coordinate of the long axes
set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]
theorem after0_6 (c : Dev nD) (t : Fin cfg0.N) : (dats m 0 c).after 6 t = (outsAt0 m c t.val t.isLt).2.2.1 := by dsimp only [dats]
theorem after0_7 (c : Dev nD) (t : Fin cfg0.N) : (dats m 0 c).after 7 t = (outsAt0 m c t.val t.isLt).2.2.2.1 := by dsimp only [dats]
theorem after0_8 (c : Dev nD) (t : Fin cfg0.N) : (dats m 0 c).after 8 t = (outsAt0 m c t.val t.isLt).2.2.2.2.1 := by dsimp only [dats]
theorem after0_9 (c : Dev nD) (t : Fin cfg0.N) : (dats m 0 c).after 9 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- At a point of case B output 8's current staging buffer holds what the body left at the point before: the point is
    not the first, the buffer was not written back between (`flush0_8`), the window is live and uncut (Lib/Pipeline/Frame.lean
    `Dat.before_out_kept`). -/
theorem before0_8_B (c : Dev nD) (t : Fin cfg0.N) (h0 : ¬t.val % 16 = 0) (h1 : ¬t.val % 16 = 0) (h2 : ¬t.val % 16 = 15) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 16 = 0) (h1 : ¬t.val % 16 = 0) (h2 : ¬t.val % 16 = 15) (d) :
    (dats m 0 c).before 9 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 8's current staging buffer holds what the body left at the point before: the point is
    not the first, the buffer was not written back between (`flush0_8`), the window is live and uncut (Lib/Pipeline/Frame.lean
    `Dat.before_out_kept`). -/
theorem before0_8_C (c : Dev nD) (t : Fin cfg0.N) (h0 : ¬t.val % 16 = 0) (h1 : ¬t.val % 16 = 0) (h2 : t.val % 16 = 15) (d) :
    (dats m 0 c).before 8 t d = (outsAt0 m c (t.val - 1) (Nat.lt_of_le_of_lt (Nat.sub_le _ _) t.isLt)).2.2.2.2.1 := by
  have hN : t.val < 16 := lt_of_lt_of_eq t.isLt (show cfg0.N = 16 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 9's current staging buffer holds what the body left at the point before: the point is
    not the first, the buffer was not written back between (`flush0_9`), the window is live and uncut (Lib/Pipeline/Frame.lean
    `Dat.before_out_kept`). -/
theorem before0_9_C (c : Dev nD) (t : Fin cfg0.N) (h0 : ¬t.val % 16 = 0) (h1 : ¬t.val % 16 = 0) (h2 : t.val % 16 = 15) (d) :
    (dats m 0 c).before 9 t d = (outsAt0 m c (t.val - 1) (Nat.lt_of_le_of_lt (Nat.sub_le _ _) t.isLt)).2.2.2.2.2.1 := by
  have hN : t.val < 16 := lt_of_lt_of_eq t.isLt (show cfg0.N = 16 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`, the rest of `ΦD` opened by `PhiD0_eq`), the other scratch at anything, the register, its DMA cells at zero and the HBM operands, and takes the carried scratch back at this point's contents (`PhiS_succ`, by `scoverK_κ_N`), the cells and operands as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 16 := lt_of_lt_of_eq t.isLt (show cfg0.N = 16 from N_0)
  by_cases h0 : t.val % 16 = 0
  · by_cases h1 : t.val % 16 = 0
    · by_cases h2 : t.val % 16 = 15
      · exfalso; omega
      · by_cases hz : t.val = 0
        · rw [PhiS_castSucc m c t, PhiS_zero m c _ _ hz, PhiD0_eq]
          rw [outsAt0_A m c t h0 h1 h2]
          unfold out0_A_4 out0_A_5 out0_A_6 out0_A_7 out0_A_8 out0_A_9 sout0_A_0 sout0_A_1 sout0_A_2; (try dsimp only)
          iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_A c (grid0.coords t) _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (V m c main_v10)).2.2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexists _; iexact H8
          isplitl [H9]; · iexists _; iexact H9
          isplitl [HS0]; · iexact HS0
          isplitl [HS1]; · iexact HS1
          isplitl [HS2]; · iexact HS2
          isplitl [HS3]; · iexact HS3
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hh0]; · iexact Hh0
          isplitl [HW]; · iexact HW
          iintro ⟨H0, H1, H2, H3, ⟨%e4, H4⟩, ⟨%e5, H5⟩, ⟨%e6, H6⟩, ⟨%e7, H7⟩, ⟨%e8, H8⟩, ⟨%e9, H9⟩, ⟨%es0, HS0⟩, ⟨%es1, HS1⟩, ⟨%es2, HS2⟩, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
          isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
          · isplitl [HS0 HS1 HS2 HS3]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _)
              isplitl [HS2]
              · unfold owns; iexists _; isplitr
                swap; · iexact HS2
                ipureintro; exact View.read_writes_of_cover _ _ _ _ _ (scover0_A_2 c _ _ _ _ _ _ _ _ _ _ _ _ _ _ _ _ _ _ _ _ _ _ _ _ _ _ _ _ _ _ _ _ _ _ _ _ _)
              iexists _; unfold owns; iexists _; isplitr
              swap; · iexact HS3
              ipureintro; rfl
            isplitl [Hg]
            · iexact Hg
            isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              isplitl [Hq15]; · iexact Hq15
              isplitl [Hq16]; · iexact Hq16
              isplitl [Hq17]; · iexact Hq17
              isplitl [Hq18]; · iexact Hq18
              isplitl [Hq19]; · iexact Hq19
              isplitl [Hq20]; · iexact Hq20
              isplitl [Hq21]; · iexact Hq21
              isplitl [Hq22]; · iexact Hq22
              iexact Hq23
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_A_4 c _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_A_6 c _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_A_7 c _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_A_8 c _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_A_9 c _ _ _ _ _ _ _ _ _ _ _ _ _ _ _ _ _ _ _ _ _ _ _ _ _ _ _ _ _ _ _ _ _ _ _ _ _)
        · exfalso; have hN : t.val < 16 := lt_of_lt_of_eq t.isLt (show cfg0.N = 16 from N_0); omega
    · exfalso; omega
  · by_cases h1 : t.val % 16 = 0
    · exfalso; omega
    · by_cases h2 : t.val % 16 = 15
      · by_cases hz : t.val = 0
        · exfalso; have hN : t.val < 16 := lt_of_lt_of_eq t.isLt (show cfg0.N = 16 from N_0); omega
        · rw [PhiS_castSucc m c t, PhiS_pos m c _ _ hz]
          rw [outsAt0_C m c t h0 h1 h2]
          simp only [before0_8_C m c t h0 h1 h2, before0_9_C m c t h0 h1 h2]
          unfold out0_C_4 out0_C_5 out0_C_6 out0_C_7 out0_C_8 out0_C_9 sout0_C_0 sout0_C_1 sout0_C_2; (try dsimp only)
          iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) _ _ _ _ _ (V m c main_v10)).2.2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexact H8
          isplitl [H9]; · iexact H9
          isplitl [HS0]; · iexact HS0
          isplitl [HS1]; · iexact HS1
          isplitl [HS2]; · iexact HS2
          isplitl [HS3]; · iexact HS3
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hh0]; · iexact Hh0
          isplitl [HW]; · iexact HW
          iintro ⟨H0, H1, H2, H3, ⟨%e4, H4⟩, ⟨%e5, H5⟩, ⟨%e6, H6⟩, ⟨%e7, H7⟩, ⟨%e8, H8⟩, ⟨%e9, H9⟩, HS0, HS1, HS2, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
          isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
          · isplitl [HS0 HS1 HS2 HS3]
            · isplitl [HS0]; · iexact HS0
              isplitl [HS1]; · iexact HS1
              isplitl [HS2]; · iexact HS2
              iexists _; unfold owns; iexists _; isplitr
              swap; · iexact HS3
              ipureintro; rfl
            isplitl [Hg]
            · iexact Hg
            isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              isplitl [Hq15]; · iexact Hq15
              isplitl [Hq16]; · iexact Hq16
              isplitl [Hq17]; · iexact Hq17
              isplitl [Hq18]; · iexact Hq18
              isplitl [Hq19]; · iexact Hq19
              isplitl [Hq20]; · iexact Hq20
              isplitl [Hq21]; · iexact Hq21
              isplitl [Hq22]; · iexact Hq22
              iexact Hq23
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_C_4 c _ _ _ _ _ _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_C_6 c _ _ _ _ _ _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_C_7 c _ _ _ _ _ _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_C_8 c _ _ _ _ _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_C_9 c _ _ _ _ _ _ _ _ _ _ _ _ _ _ _ _ _ _ _ _ _ _ _ _ _ _ _ _ _ _ _ _ _ _ _ _ _ _ _ _ _ _)
      · by_cases hz : t.val = 0
        · exfalso; have hN : t.val < 16 := lt_of_lt_of_eq t.isLt (show cfg0.N = 16 from N_0); omega
        · rw [PhiS_castSucc m c t, PhiS_pos m c _ _ hz]
          rw [outsAt0_B m c t h0 h1 h2]
          simp only [before0_8_B m c t h0 h1 h2, before0_9_B m c t h0 h1 h2]
          unfold out0_B_4 out0_B_5 out0_B_6 out0_B_7 out0_B_8 out0_B_9 sout0_B_0 sout0_B_1 sout0_B_2; (try dsimp only)
          iintro ⟨⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
          iapply ((kernelRun0_B c (grid0.coords t) _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) _ _ _ _ _ (V m c main_v10)).2.2.2.2.2.2.2.2.2.2 W _)
          isplitl [H0]; · iexact H0
          isplitl [H1]; · iexact H1
          isplitl [H2]; · iexact H2
          isplitl [H3]; · iexact H3
          isplitl [H4]; · iexists _; iexact H4
          isplitl [H5]; · iexists _; iexact H5
          isplitl [H6]; · iexists _; iexact H6
          isplitl [H7]; · iexists _; iexact H7
          isplitl [H8]; · iexact H8
          isplitl [H9]; · iexact H9
          isplitl [HS0]; · iexact HS0
          isplitl [HS1]; · iexact HS1
          isplitl [HS2]; · iexact HS2
          isplitl [HS3]; · iexact HS3
          isplitl [Hq0]; · iexact Hq0
          isplitl [Hq1]; · iexact Hq1
          isplitl [Hq2]; · iexact Hq2
          isplitl [Hq3]; · iexact Hq3
          isplitl [Hq4]; · iexact Hq4
          isplitl [Hq5]; · iexact Hq5
          isplitl [Hq6]; · iexact Hq6
          isplitl [Hq7]; · iexact Hq7
          isplitl [Hq8]; · iexact Hq8
          isplitl [Hq9]; · iexact Hq9
          isplitl [Hq10]; · iexact Hq10
          isplitl [Hq11]; · iexact Hq11
          isplitl [Hq12]; · iexact Hq12
          isplitl [Hq13]; · iexact Hq13
          isplitl [Hq14]; · iexact Hq14
          isplitl [Hq15]; · iexact Hq15
          isplitl [Hq16]; · iexact Hq16
          isplitl [Hq17]; · iexact Hq17
          isplitl [Hq18]; · iexact Hq18
          isplitl [Hq19]; · iexact Hq19
          isplitl [Hq20]; · iexact Hq20
          isplitl [Hq21]; · iexact Hq21
          isplitl [Hq22]; · iexact Hq22
          isplitl [Hq23]; · iexact Hq23
          isplitl [Hh0]; · iexact Hh0
          isplitl [HW]; · iexact HW
          iintro ⟨H0, H1, H2, H3, ⟨%e4, H4⟩, ⟨%e5, H5⟩, ⟨%e6, H6⟩, ⟨%e7, H7⟩, ⟨%e8, H8⟩, ⟨%e9, H9⟩, HS0, HS1, HS2, ⟨%fT3, HS3⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hh0, ⟨%W', HW'⟩⟩
          isplitl [HS0 HS1 HS2 HS3 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hh0]
          · isplitl [HS0 HS1 HS2 HS3]
            · isplitl [HS0]; · iexact HS0
              isplitl [HS1]; · iexact HS1
              isplitl [HS2]; · iexact HS2
              iexists _; unfold owns; iexists _; isplitr
              swap; · iexact HS3
              ipureintro; rfl
            isplitl [Hg]
            · iexact Hg
            isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
            · isplitl [Hq0]; · iexact Hq0
              isplitl [Hq1]; · iexact Hq1
              isplitl [Hq2]; · iexact Hq2
              isplitl [Hq3]; · iexact Hq3
              isplitl [Hq4]; · iexact Hq4
              isplitl [Hq5]; · iexact Hq5
              isplitl [Hq6]; · iexact Hq6
              isplitl [Hq7]; · iexact Hq7
              isplitl [Hq8]; · iexact Hq8
              isplitl [Hq9]; · iexact Hq9
              isplitl [Hq10]; · iexact Hq10
              isplitl [Hq11]; · iexact Hq11
              isplitl [Hq12]; · iexact Hq12
              isplitl [Hq13]; · iexact Hq13
              isplitl [Hq14]; · iexact Hq14
              isplitl [Hq15]; · iexact Hq15
              isplitl [Hq16]; · iexact Hq16
              isplitl [Hq17]; · iexact Hq17
              isplitl [Hq18]; · iexact Hq18
              isplitl [Hq19]; · iexact Hq19
              isplitl [Hq20]; · iexact Hq20
              isplitl [Hq21]; · iexact Hq21
              isplitl [Hq22]; · iexact Hq22
              iexact Hq23
            iexact Hh0
          isplitl [HW']
          · iexists W'; isplitr; · ipureintro; exact fun _ _ => Or.inl trivial
            iexact HW'
          isplitl [H0]; · iexact H0
          isplitl [H1]; · iexact H1
          isplitl [H2]; · iexact H2
          isplitl [H3]; · iexact H3
          isplitl [H4]
          · unfold owns; iexists _; isplitr
            swap; · iexact H4
            ipureintro; exact View.read_writes_of_cover _ _ _ _ _ (cover0_B_4 c _ _ _ _ _ _ _ _ _ _ _ _ _ _ _ _ _ _ _ _ _ _ _ _ _ _ _ _ _ _ _ _ _ _ _ _ _ _ _ _ _ _)
          isplitl [H5]
          · unfold owns; iexists _; isplitr
            swap; · iexact H5
            ipureintro; exact View.read_writes_of_cover _ _ _ _ _ (cover0_B_5 c _ _ _ _ _ _ _ _ _ _ _ _ _ _ _ _ _ _ _ _ _ _ _ _ _ _ _ _ _ _ _ _ _ _ _ _ _ _ _ _ _ _)
          isplitl [H6]
          · unfold owns; iexists _; isplitr
            swap; · iexact H6
            ipureintro; exact View.read_writes_of_cover _ _ _ _ _ (cover0_B_6 c _ _ _ _ _ _ _ _ _ _ _ _ _ _ _ _ _ _ _ _ _ _ _ _ _ _ _ _ _ _ _ _ _ _ _ _ _ _ _ _ _ _)
          isplitl [H7]
          · unfold owns; iexists _; isplitr
            swap; · iexact H7
            ipureintro; exact View.read_writes_of_cover _ _ _ _ _ (cover0_B_7 c _ _ _ _ _ _ _ _ _ _ _ _ _ _ _ _ _ _ _ _ _ _ _ _ _ _ _ _ _ _ _ _ _ _ _ _ _ _ _ _ _ _)
          isplitl [H8]
          · unfold owns; iexists _; isplitr
            swap; · iexact H8
            ipureintro; exact View.read_writes_of_cover _ _ _ _ _ (cover0_B_8 c _ _ _ _ _ _ _ _ _ _ _ _ _ _ _ _ _ _ _ _ _ _ _ _ _ _ _ _ _ _ _ _ _ _ _ _ _ _ _ _ _ _)
          unfold owns; iexists _; isplitr
          swap; · iexact H9
          ipureintro; exact View.read_writes_of_cover _ _ _ _ _ (cover0_B_9 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦD`) is the invariant before the first point. -/
theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦD` back: the carried scratch's named contents are forgotten. -/
theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23⟩, Hh0⟩
  isplitl [HS0 HS1 HS2 HS3]
  · isplitl [HS0]
    · iexists _; iexact HS0
    isplitl [HS1]
    · iexists _; iexact HS1
    isplitl [HS2]
    · iexists _; iexact HS2
    iexact HS3
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    iexact Hq23
  iexact Hh0

/-- The same after the last point. -/
theorem hout (c : Dev nD) : (dats m 0 c).Φ (Fin.last cfg0.N) ⊢ Pipeline.ΦD osem0 spec0 H0 (V m) c :=
  Phi_out m c _ (by rw [Fin.val_last]; have : cfg0.N = 16 := N_0; omega)

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.Gen

end
-- ==== Proof.Fwd.Same.lean ====
/- The machine-float program and its ideal copy have one text. Here they are shown to be one program for every float
values `F`, so that one run serves both frames: the region body, the procedures and the host program in turn. -/
module

public import proofs.«01_k».proof.Proof.Gen.Kernel3
public import proofs.«01_k».proof.Proof.Gen.Kernel3Ideal

@[expose] public section

set_option maxRecDepth 16384
set_option maxHeartbeats 4000000

noncomputable section

namespace Cert.Fwd

open Idealize.ShloMosaic

variable {F : FTy → Type} [FloatOps F]

theorem same_bodies : @Cert.Kernel3.defs₀ F _ Cert.Kernel3.Gen.facts = @Cert.Kernel3Ideal.defs₀ F _ Cert.Kernel3Ideal.Gen.facts := by
  unfold Cert.Kernel3.defs₀ Cert.Kernel3Ideal.defs₀
  refine congrArg Defs.onTc ?_
  funext k x
  match k, x with
  | 0, (t, s) => exact rfl

theorem same_defs : @Cert.Kernel3Ideal.defs F _ Cert.Kernel3Ideal.Gen.facts = @Cert.Kernel3.defs F _ Cert.Kernel3.Gen.facts :=
  congrArg (Pipeline.defs (@Cert.Kernel3Ideal.pcfgs F _)) same_bodies.symm

theorem same_main : @Cert.Kernel3Ideal.main F _ Cert.Kernel3Ideal.Gen.facts = @Cert.Kernel3.main F _ Cert.Kernel3.Gen.facts := rfl

end Cert.Fwd

end
-- ==== Proof.Fwd.Weights.lean ====
/- What the three weight buffers hold after every point: the rows copied out of the slab at the first one. -/
module

public import proofs.«01_k».proof.Proof.Fwd.Frame
public import Idealize.ShloMosaic.Lib.Pipeline.ValueKit
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

variable (m : (ℓ : Loc nD τ sig) → Buf (Elt Ideal) ℓ) (c : Dev nD)

/-- A row of a part of the slab, as a place of the slab. -/
theorem emb_row (off : Fin 3 → ℕ) (inb : ∀ a, off a + (![1, 352, 1024] : Fin 3 → ℕ) a ≤ S8x1424x1024.size a)
    (hn : S352x1024.numel = S1x352x1024.numel) (a : Fin 352) (b : Fin 1024) (p : S8x1424x1024.Idx)
    (h0 : (p 0).val = off 0) (h1 : (p 1).val = off 1 + a.val) (h2 : (p 2).val = off 2 + b.val) :
    (Rect.unit (s := S8x1424x1024) off ![1, 352, 1024] inb).emb
      (Shape.reshapeEquiv (s' := S352x1024) hn (ix2 a b)) = p := by
  have e : Shape.reshapeEquiv (s := S1x352x1024) (s' := S352x1024) hn (ix2 a b) = ix3 0 a b := by pointwise
  rw [e]
  funext d
  apply Fin.ext
  fin_cases d
  · show off 0 + 1 * 0 = (p 0).val; omega
  · show off 1 + 1 * a.val = (p 1).val; omega
  · show off 2 + 1 * b.val = (p 2).val; omega

/-- The slab, read at one weight's row: chip `n / 352`'s part, from row `o`. -/
def slabAt (o : ℕ) (ho : o + 352 ≤ 1424) (n : Fin 2816) (k : Fin 1024) : EReal :=
  V m c main_v10 (ix3 (⟨n.val / 352, by omega⟩ : Fin 8) (⟨o + n.val % 352, by omega⟩ : Fin 1424) k)

/-- The gate weights as the slab holds them. -/
def wgS : Vec Ideal S2816x1024 .bf16 := fun i => slabAt m c 0 (by omega) (i 0) (i 1)

set_option maxHeartbeats 4000000 in
theorem wg_A (t : Fin cfg0.N) (h0 : t.val % 16 = 0) (h1 : ¬t.val % 16 = 15) :
    (outsAt0 m c t.val t.isLt).2.2.2.2.2.2.1 = wgS m c := by
  rw [outsAt0_A m c t h0 h0 h1]; frame_out
  funext y
  canon_tiles y h
  all_goals
    unfold wgS slabAt
    idx_vars y
    change V m c main_v10 (Rect.emb _ (Shape.reshapeEquiv _ _)) = V m c main_v10 _
    refine congrArg _ (emb_row _ _ _ _ _ _ ?_ ?_ ?_)
    · change (y 0).val / 352 = _; dsimp only [Matrix.cons_val_zero]; omega
    · change 0 + (y 0).val % 352 = _; dsimp only [Matrix.cons_val_one, Matrix.cons_val_zero]; omega
    · change (y 1).val = _; dsimp only [Matrix.cons_val]; omega

theorem wg_all (n : ℕ) (h : n < cfg0.N) : (outsAt0 m c n h).2.2.2.2.2.2.1 = wgS m c := by
  induction n with
  | zero => exact wg_A m c ⟨0, h⟩ rfl (by show ¬0 % 16 = 15; decide)
  | succ n ih =>
    have hN : n + 1 < 16 := h
    have h0 : ¬(⟨n + 1, h⟩ : Fin cfg0.N).val % 16 = 0 := by show ¬(n + 1) % 16 = 0; omega
    by_cases h1 : (⟨n + 1, h⟩ : Fin cfg0.N).val % 16 = 15
    · have e := outsAt0_C m c ⟨n + 1, h⟩ h0 h0 h1
      refine (congrArg (fun o => o.2.2.2.2.2.2.1) e).trans ?_
      dsimp only; unfold sout0_C_0
      exact ih _
    · have e := outsAt0_B m c ⟨n + 1, h⟩ h0 h0 h1
      refine (congrArg (fun o => o.2.2.2.2.2.2.1) e).trans ?_
      dsimp only; unfold sout0_B_0
      exact ih _

/-- The up weights as the slab holds them. -/
def wuS : Vec Ideal S2816x1024 .bf16 := fun i => slabAt m c 352 (by omega) (i 0) (i 1)

set_option maxHeartbeats 4000000 in
theorem wu_A (t : Fin cfg0.N) (h0 : t.val % 16 = 0) (h1 : ¬t.val % 16 = 15) :
    (outsAt0 m c t.val t.isLt).2.2.2.2.2.2.2.1 = wuS m c := by
  rw [outsAt0_A m c t h0 h0 h1]; frame_out
  funext y
  canon_tiles y h
  all_goals
    unfold wuS slabAt
    idx_vars y
    change V m c main_v10 (Rect.emb _ (Shape.reshapeEquiv _ _)) = V m c main_v10 _
    refine congrArg _ (emb_row _ _ _ _ _ _ ?_ ?_ ?_)
    · change (y 0).val / 352 = _; dsimp only [Matrix.cons_val_zero]; omega
    · change 352 + (y 0).val % 352 = _; dsimp only [Matrix.cons_val_one, Matrix.cons_val_zero]; omega
    · change (y 1).val = _; dsimp only [Matrix.cons_val]; omega

theorem wu_all (n : ℕ) (h : n < cfg0.N) : (outsAt0 m c n h).2.2.2.2.2.2.2.1 = wuS m c := by
  induction n with
  | zero => exact wu_A m c ⟨0, h⟩ rfl (by show ¬0 % 16 = 15; decide)
  | succ n ih =>
    have hN : n + 1 < 16 := h
    have h0 : ¬(⟨n + 1, h⟩ : Fin cfg0.N).val % 16 = 0 := by show ¬(n + 1) % 16 = 0; omega
    by_cases h1 : (⟨n + 1, h⟩ : Fin cfg0.N).val % 16 = 15
    · have e := outsAt0_C m c ⟨n + 1, h⟩ h0 h0 h1
      refine (congrArg (fun o => o.2.2.2.2.2.2.2.1) e).trans ?_
      dsimp only; unfold sout0_C_1
      exact ih _
    · have e := outsAt0_B m c ⟨n + 1, h⟩ h0 h0 h1
      refine (congrArg (fun o => o.2.2.2.2.2.2.2.1) e).trans ?_
      dsimp only; unfold sout0_B_1
      exact ih _

/-- The down weights as the slab holds them. -/
def wdS : Vec Ideal S2816x1024 .bf16 := fun i => slabAt m c 704 (by omega) (i 0) (i 1)

set_option maxHeartbeats 4000000 in
theorem wd_A (t : Fin cfg0.N) (h0 : t.val % 16 = 0) (h1 : ¬t.val % 16 = 15) :
    (outsAt0 m c t.val t.isLt).2.2.2.2.2.2.2.2 = wdS m c := by
  rw [outsAt0_A m c t h0 h0 h1]; frame_out
  funext y
  canon_tiles y h
  all_goals
    unfold wdS slabAt
    idx_vars y
    change V m c main_v10 (Rect.emb _ (Shape.reshapeEquiv _ _)) = V m c main_v10 _
    refine congrArg _ (emb_row _ _ _ _ _ _ ?_ ?_ ?_)
    · change (y 0).val / 352 = _; dsimp only [Matrix.cons_val_zero]; omega
    · change 704 + (y 0).val % 352 = _; dsimp only [Matrix.cons_val_one, Matrix.cons_val_zero]; omega
    · change (y 1).val = _; dsimp only [Matrix.cons_val]; omega

theorem wd_all (n : ℕ) (h : n < cfg0.N) : (outsAt0 m c n h).2.2.2.2.2.2.2.2 = wdS m c := by
  induction n with
  | zero => exact wd_A m c ⟨0, h⟩ rfl (by show ¬0 % 16 = 15; decide)
  | succ n ih =>
    have hN : n + 1 < 16 := h
    have h0 : ¬(⟨n + 1, h⟩ : Fin cfg0.N).val % 16 = 0 := by show ¬(n + 1) % 16 = 0; omega
    by_cases h1 : (⟨n + 1, h⟩ : Fin cfg0.N).val % 16 = 15
    · have e := outsAt0_C m c ⟨n + 1, h⟩ h0 h0 h1
      refine (congrArg (fun o => o.2.2.2.2.2.2.2.2) e).trans ?_
      dsimp only; unfold sout0_C_2
      exact ih _
    · have e := outsAt0_B m c ⟨n + 1, h⟩ h0 h0 h1
      refine (congrArg (fun o => o.2.2.2.2.2.2.2.2) e).trans ?_
      dsimp only; unfold sout0_B_2
      exact ih _

end Cert.Kernel3Ideal.Value
-- ==== Proof.Fwd.Chain.lean ====
/- The half block's forward product for one row block, read at one place: eleven column chunks summed in turn. -/
module

public import proofs.«01_k».proof.Proof.Gen.Kernel3Ideal.Skeleton
public import proofs.«01_k».proof.Proof.Ffn1.Rows

@[expose] public section

set_option maxRecDepth 16384

noncomputable section

open Idealize.ShloMosaic Idealize.ShloMosaic.TcCoe Idealize.SL.Sem

namespace Cert.Kernel3Ideal.Value
open Cert.Kernel3Ideal Cert.Kernel3Ideal.Gen
open Cert.KernelIdeal.Value (rs sg sum_eleven)

/-- One value of the inner layer: the gate value through the sigmoid, times the up value. -/
def act (g u : EReal) : EReal := g * sg g * u

variable (B : Vec Ideal S512x1024 .bf16) (WG WU WD : Vec Ideal S2816x1024 .bf16)

/-- One chunk's part of the product at one place. -/
def part (c : Fin 11) (i : Fin 512) (k : Fin 1024) : EReal :=
  ∑ j : Fin 256, act (∑ l, B (ix2 i l) * WG (ix2 ⟨c.val * 256 + j.val, by omega⟩ l)) (∑ l, B (ix2 i l) * WU (ix2 ⟨c.val * 256 + j.val, by omega⟩ l))
    * WD (ix2 ⟨c.val * 256 + j.val, by omega⟩ k)

/-- The product at one place. -/
def prod (i : Fin 512) (k : Fin 1024) : EReal := ∑ c : Fin 11, part B WG WU WD c i k

theorem inb_rows (b : ℕ) (h : b ≤ 2560) : ∀ a, (![b, 0] : Fin 2 → ℕ) a + (![256, 1024] : Fin 2 → ℕ) a ≤ S2816x1024.size a := by
  intro a
  fin_cases a
  · show b + 256 ≤ 2816
    omega
  · show 0 + 1024 ≤ 1024
    omega

set_option maxHeartbeats 4000000 in
theorem chain (i : Fin 512) (k : Fin 1024) :
    k0_pay74 (F := Ideal) (k0_pay69 B (View.ld (Val := Elt Ideal) (S := S2816x1024) (e' := EltTy.bf16) WG (Rect.unit ![2560, 0] ![256, 1024] (inb_rows 2560 (by decide))))) (k0_pay70 B (View.ld (Val := Elt Ideal) (S := S2816x1024) (e' := EltTy.bf16) WU (Rect.unit ![2560, 0] ![256, 1024] (inb_rows 2560 (by decide))))) (k0_pay67 (k0_pay62 B (View.ld (Val := Elt Ideal) (S := S2816x1024) (e' := EltTy.bf16) WG (Rect.unit ![2304, 0] ![256, 1024] (inb_rows 2304 (by decide))))) (k0_pay63 B (View.ld (Val := Elt Ideal) (S := S2816x1024) (e' := EltTy.bf16) WU (Rect.unit ![2304, 0] ![256, 1024] (inb_rows 2304 (by decide))))) (k0_pay60 (k0_pay55 B) (k0_pay56 B (View.ld (Val := Elt Ideal) (S := S2816x1024) (e' := EltTy.bf16) WG (Rect.unit ![2048, 0] ![256, 1024] (inb_rows 2048 (by decide))))) (View.ld (Val := Elt Ideal) (S := S2816x1024) (e' := EltTy.bf16) WU (Rect.unit ![2048, 0] ![256, 1024] (inb_rows 2048 (by decide)))) (k0_pay54 B (View.ld (Val := Elt Ideal) (S := S2816x1024) (e' := EltTy.bf16) WG (Rect.unit ![1792, 0] ![256, 1024] (inb_rows 1792 (by decide)))) (View.ld (Val := Elt Ideal) (S := S2816x1024) (e' := EltTy.bf16) WU (Rect.unit ![1792, 0] ![256, 1024] (inb_rows 1792 (by decide)))) (k0_pay48 B (View.ld (Val := Elt Ideal) (S := S2816x1024) (e' := EltTy.bf16) WG (Rect.unit ![1536, 0] ![256, 1024] (inb_rows 1536 (by decide)))) (View.ld (Val := Elt Ideal) (S := S2816x1024) (e' := EltTy.bf16) WU (Rect.unit ![1536, 0] ![256, 1024] (inb_rows 1536 (by decide)))) (k0_pay42 B (View.ld (Val := Elt Ideal) (S := S2816x1024) (e' := EltTy.bf16) WG (Rect.unit ![1280, 0] ![256, 1024] (inb_rows 1280 (by decide)))) (View.ld (Val := Elt Ideal) (S := S2816x1024) (e' := EltTy.bf16) WU (Rect.unit ![1280, 0] ![256, 1024] (inb_rows 1280 (by decide)))) (k0_pay36 (k0_pay29 (k0_pay28 B (View.ld (Val := Elt Ideal) (S := S2816x1024) (e' := EltTy.bf16) WG (Rect.unit ![768, 0] ![256, 1024] (inb_rows 768 (by decide)))) (View.ld (Val := Elt Ideal) (S := S2816x1024) (e' := EltTy.bf16) WU (Rect.unit ![768, 0] ![256, 1024] (inb_rows 768 (by decide))))) (k0_pay22 (k0_pay17 B (View.ld (Val := Elt Ideal) (S := S2816x1024) (e' := EltTy.bf16) WG (Rect.unit ![512, 0] ![256, 1024] (inb_rows 512 (by decide))))) (k0_pay18 B (View.ld (Val := Elt Ideal) (S := S2816x1024) (e' := EltTy.bf16) WU (Rect.unit ![512, 0] ![256, 1024] (inb_rows 512 (by decide))))) (k0_pay15 (k0_pay11 B (View.ld (Val := Elt Ideal) (S := S2816x1024) (e' := EltTy.bf16) WG (Rect.unit ![256, 0] ![256, 1024] (inb_rows 256 (by decide))))) (k0_pay12 B (View.ld (Val := Elt Ideal) (S := S2816x1024) (e' := EltTy.bf16) WU (Rect.unit ![256, 0] ![256, 1024] (inb_rows 256 (by decide))))) (k0_pay9 (k0_pay5 B (View.ld (Val := Elt Ideal) (S := S2816x1024) (e' := EltTy.bf16) WG (Rect.unit ![0, 0] ![256, 1024] (inb_rows 0 (by decide))))) (k0_pay6 B (View.ld (Val := Elt Ideal) (S := S2816x1024) (e' := EltTy.bf16) WU (Rect.unit ![0, 0] ![256, 1024] (inb_rows 0 (by decide))))) (k0_pay3 (F := Ideal)) (View.ld (Val := Elt Ideal) (S := S2816x1024) (e' := EltTy.bf16) WD (Rect.unit ![0, 0] ![256, 1024] (inb_rows 0 (by decide))))) (View.ld (Val := Elt Ideal) (S := S2816x1024) (e' := EltTy.bf16) WD (Rect.unit ![256, 0] ![256, 1024] (inb_rows 256 (by decide))))) (View.ld (Val := Elt Ideal) (S := S2816x1024) (e' := EltTy.bf16) WD (Rect.unit ![512, 0] ![256, 1024] (inb_rows 512 (by decide))))) (View.ld (Val := Elt Ideal) (S := S2816x1024) (e' := EltTy.bf16) WD (Rect.unit ![768, 0] ![256, 1024] (inb_rows 768 (by decide))))) (k0_pay35 B (View.ld (Val := Elt Ideal) (S := S2816x1024) (e' := EltTy.bf16) WG (Rect.unit ![1024, 0] ![256, 1024] (inb_rows 1024 (by decide)))) (View.ld (Val := Elt Ideal) (S := S2816x1024) (e' := EltTy.bf16) WU (Rect.unit ![1024, 0] ![256, 1024] (inb_rows 1024 (by decide)))) (View.ld (Val := Elt Ideal) (S := S2816x1024) (e' := EltTy.bf16) WD (Rect.unit ![1024, 0] ![256, 1024] (inb_rows 1024 (by decide)))))) (View.ld (Val := Elt Ideal) (S := S2816x1024) (e' := EltTy.bf16) WD (Rect.unit ![1280, 0] ![256, 1024] (inb_rows 1280 (by decide))))) (View.ld (Val := Elt Ideal) (S := S2816x1024) (e' := EltTy.bf16) WD (Rect.unit ![1536, 0] ![256, 1024] (inb_rows 1536 (by decide))))) (View.ld (Val := Elt Ideal) (S := S2816x1024) (e' := EltTy.bf16) WD (Rect.unit ![1792, 0] ![256, 1024] (inb_rows 1792 (by decide))))) (View.ld (Val := Elt Ideal) (S := S2816x1024) (e' := EltTy.bf16) WD (Rect.unit ![2048, 0] ![256, 1024] (inb_rows 2048 (by decide))))) (View.ld (Val := Elt Ideal) (S := S2816x1024) (e' := EltTy.bf16) WD (Rect.unit ![2304, 0] ![256, 1024] (inb_rows 2304 (by decide))))) (View.ld (Val := Elt Ideal) (S := S2816x1024) (e' := EltTy.bf16) WD (Rect.unit ![2560, 0] ![256, 1024] (inb_rows 2560 (by decide)))) (ix2 i k)
      = prod B WG WU WD i k := by
  pointwise [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74]
  unfold prod
  rw [sum_eleven]
  rfl

theorem norm_at (X : Vec Ideal S512x1024 .f32) (N : Vec Ideal S1x1024 .f32) (i : Fin 512) (k : Fin 1024) :
    k0_pay2 (F := Ideal) X N (ix2 i k) = X (ix2 i k) * (rs fun l => X (ix2 i l)) * N (ix2 0 k) := by
  pointwise [k0_pay2]
  rfl

/-- The half block's output at one place: the input plus half the product. -/
def outat (x f : EReal) : EReal := x + Ideal.ofBits .f32 0x3F000000#32 * f

/-- What the normed, scaled output misses the target by. -/
def errat (o g t : Fin 1024 → EReal) (k : Fin 1024) : EReal := o k * rs o * g k - t k

/-- The loss of one row: the mean of the squares. -/
def lossrow (o g t : Fin 1024 → EReal) : EReal :=
  Ideal.div (∑ k, errat o g t k * errat o g t k) (Ideal.ofBits .f32 0x44800000#32)

/-- The gradient at the normed output. -/
def dyat (o g t : Fin 1024 → EReal) (k : Fin 1024) : EReal := errat o g t k * Ideal.ofBits .f32 0x3A800000#32

/-- The gradient at the output, as the kernel composes it. -/
def doat (o g t : Fin 1024 → EReal) (k : Fin 1024) : EReal :=
  rs o * (dyat o g t k * g k
    - o k * rs o * Ideal.div (∑ l, dyat o g t l * g l * (o l * rs o)) (Ideal.ofBits .f32 0x44800000#32))

variable (X A T : Vec Ideal S512x1024 .f32) (N : Vec Ideal S1x1024 .f32) (f : Fin 512 → Fin 1024 → EReal)

theorem do_of (h : ∀ i k, A (ix2 i k) = f i k) (i : Fin 512) (k : Fin 1024) :
    k0_pay84 (F := Ideal) T (k0_pay78 N) (k0_pay79 X A) (k0_pay80 X A) (k0_pay81 N) (ix2 i k)
      = doat (fun l => outat (X (ix2 i l)) (f i l)) (fun l => N (ix2 0 l)) (fun l => T (ix2 i l)) k := by
  pointwise [k0_pay84, k0_pay83, k0_pay82, k0_pay81, k0_pay80, k0_pay79, k0_pay78, k0_pay75, h]
  rfl

theorem loss_of (h : ∀ i k, A (ix2 i k) = f i k) (L : Vec Ideal S8x128 .f32) (p : Fin 8) (q : Fin 128) :
    k0_pay85 (F := Ideal) T (k0_pay80 X A) (k0_pay81 N) L (ix2 p q)
      = L (ix2 p q) + Ideal.ofBits .f32 0x3F000000#32
          * ∑ i : Fin 512, lossrow (fun l => outat (X (ix2 i l)) (f i l)) (fun l => N (ix2 0 l)) (fun l => T (ix2 i l)) := by
  pointwise [k0_pay85, k0_pay82, k0_pay81, k0_pay80, k0_pay79, k0_pay78, k0_pay75, h]
  simp only [Finset.sum_const, Finset.card_univ, Fintype.card_fin, one_smul]
  rfl

theorem gain_of (h : ∀ i k, A (ix2 i k) = f i k) (L : Vec Ideal S8x1024 .f32) (p : Fin 8) (k : Fin 1024) :
    k0_pay86 (F := Ideal) T (k0_pay80 X A) (k0_pay81 N) L (ix2 p k)
      = L (ix2 p k) + ∑ q : Fin 64, dyat (fun l => outat (X (ix2 ⟨q.val * 8 + p.val, by omega⟩ l)) (f ⟨q.val * 8 + p.val, by omega⟩ l))
            (fun l => N (ix2 0 l)) (fun l => T (ix2 ⟨q.val * 8 + p.val, by omega⟩ l)) k
          * (outat (X (ix2 ⟨q.val * 8 + p.val, by omega⟩ k)) (f ⟨q.val * 8 + p.val, by omega⟩ k)
            * rs fun l => outat (X (ix2 ⟨q.val * 8 + p.val, by omega⟩ l)) (f ⟨q.val * 8 + p.val, by omega⟩ l)) := by
  pointwise [k0_pay86, k0_pay83, k0_pay82, k0_pay81, k0_pay80, k0_pay79, k0_pay78, k0_pay75, h]
  rfl

theorem fold_row (L : Vec Ideal S8x1024 .f32) (k : Fin 1024) : k0_pay1 (F := Ideal) L (ix2 0 k) = ∑ p : Fin 8, L (ix2 p k) := by
  pointwise [k0_pay1]

theorem zero_row (p : Fin 8) (k : Fin 1024) : (k0_pay76 (F := Ideal)) (ix2 p k) = 0 := by
  pointwise [k0_pay76]

theorem zero_loss (p : Fin 8) (k : Fin 128) : (k0_pay77 (F := Ideal)) (ix2 p k) = 0 := by
  pointwise [k0_pay77]

end Cert.Kernel3Ideal.Value
-- ==== Proof.Fwd.Point.lean ====
/- What every point leaves in the three results kept: the block of the gradient at the output, and the running sums of the
gain's gradient and of the loss. -/
module

public import proofs.«01_k».proof.Proof.Fwd.Weights
public import proofs.«01_k».proof.Proof.Fwd.Chain

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen

variable (m : (ℓ : Loc nD τ sig) → Buf (Elt Ideal) ℓ) (c : Dev nD)

open Cert.KernelIdeal.Value (rs)

/-- The block's product at one place. -/
def fB (t : Fin cfg0.N) (i : Fin 512) (k : Fin 1024) : EReal :=
  prod (k0_pay2 (iblk m c 0 t) (iblk m c 1 t)) (wgS m c) (wuS m c) (wdS m c) i k

/-- One row of the block's output. -/
def oB (t : Fin cfg0.N) (i : Fin 512) (k : Fin 1024) : EReal := outat (iblk m c 0 t (ix2 i k)) (fB m c t i k)

/-- The last norm's gain and the block's target, by rows. -/
def gB (t : Fin cfg0.N) (k : Fin 1024) : EReal := iblk m c 3 t (ix2 0 k)
def tB (t : Fin cfg0.N) (i : Fin 512) (k : Fin 1024) : EReal := iblk m c 2 t (ix2 i k)

/-- What a point adds to one of the gain's eight partial sums. -/
def dgB (t : Fin cfg0.N) (p : Fin 8) (k : Fin 1024) : EReal :=
  ∑ q : Fin 64, dyat (oB m c t ⟨q.val * 8 + p.val, by omega⟩) (gB m c t) (tB m c t ⟨q.val * 8 + p.val, by omega⟩) k
    * (oB m c t ⟨q.val * 8 + p.val, by omega⟩ k * rs (oB m c t ⟨q.val * 8 + p.val, by omega⟩))

/-- What a point adds to the loss. -/
def lossB (t : Fin cfg0.N) : EReal :=
  Ideal.ofBits .f32 0x3F000000#32 * ∑ i : Fin 512, lossrow (oB m c t i) (gB m c t) (tB m c t i)

theorem off0 : k0_off1 0#32 = ![0, 0] := by decide
theorem off1 : k0_off1 1#32 = ![256, 0] := by decide
theorem off2 : k0_off1 2#32 = ![512, 0] := by decide
theorem off3 : k0_off1 3#32 = ![768, 0] := by decide
theorem off4 : k0_off1 4#32 = ![1024, 0] := by decide
theorem off5 : k0_off1 5#32 = ![1280, 0] := by decide
theorem off6 : k0_off1 6#32 = ![1536, 0] := by decide
theorem off7 : k0_off1 7#32 = ![1792, 0] := by decide
theorem off8 : k0_off1 8#32 = ![2048, 0] := by decide
theorem off9 : k0_off1 9#32 = ![2304, 0] := by decide
theorem off10 : k0_off1 10#32 = ![2560, 0] := by decide

theorem dx_B (t : Fin cfg0.N) (h0 : ¬t.val % 16 = 0) (h1 : ¬t.val % 16 = 15) (i : Fin 512) (k : Fin 1024) :
    (outsAt0 m c t.val t.isLt).1 (ix2 i k) = doat (oB m c t i) (gB m c t) (tB m c t i) k := by
  rw [outsAt0_B m c t h0 h0 h1]; frame_out
  simp (decide := true) only [↓View.readCov_skip, View.readCov_cons_toLoadRect, read_unread_whole, wg_all, wu_all, wd_all,
    off0, off1, off2, off3, off4, off5, off6, off7, off8, off9, off10]
  exact do_of _ _ _ _ (fB m c t) (chain _ _ _ _) i k

theorem loss_B (t : Fin cfg0.N) (h0 : ¬t.val % 16 = 0) (h1 : ¬t.val % 16 = 15) (p : Fin 8) (q : Fin 128) :
    (outsAt0 m c t.val t.isLt).2.2.2.2.2.1 (ix2 p q)
      = (show EReal from (outsAt0 m c (t.val - 1) (by omega)).2.2.2.2.2.1 (ix2 p q)) + lossB m c t := by
  rw [outsAt0_B m c t h0 h0 h1]; frame_out
  simp (decide := true) only [↓View.readCov_skip, View.readCov_cons_toLoadRect, read_unread_whole, wg_all, wu_all, wd_all,
    off0, off1, off2, off3, off4, off5, off6, off7, off8, off9, off10]
  exact loss_of _ _ _ _ (fB m c t) (chain _ _ _ _) _ p q

theorem dx_C (t : Fin cfg0.N) (h0 : ¬t.val % 16 = 0) (h1 : t.val % 16 = 15) (i : Fin 512) (k : Fin 1024) :
    (outsAt0 m c t.val t.isLt).1 (ix2 i k) = doat (oB m c t i) (gB m c t) (tB m c t i) k := by
  rw [outsAt0_C m c t h0 h0 h1]; frame_out
  simp (decide := true) only [↓View.readCov_skip, View.readCov_cons_toLoadRect, read_unread_whole, wg_all, wu_all, wd_all,
    off0, off1, off2, off3, off4, off5, off6, off7, off8, off9, off10]
  exact do_of _ _ _ _ (fB m c t) (chain _ _ _ _) i k

theorem loss_C (t : Fin cfg0.N) (h0 : ¬t.val % 16 = 0) (h1 : t.val % 16 = 15) (p : Fin 8) (q : Fin 128) :
    (outsAt0 m c t.val t.isLt).2.2.2.2.2.1 (ix2 p q)
      = (show EReal from (outsAt0 m c (t.val - 1) (by omega)).2.2.2.2.2.1 (ix2 p q)) + lossB m c t := by
  rw [outsAt0_C m c t h0 h0 h1]; frame_out
  simp (decide := true) only [↓View.readCov_skip, View.readCov_cons_toLoadRect, read_unread_whole, wg_all, wu_all, wd_all,
    off0, off1, off2, off3, off4, off5, off6, off7, off8, off9, off10]
  exact loss_of _ _ _ _ (fB m c t) (chain _ _ _ _) _ p q

theorem gain_B (t : Fin cfg0.N) (h0 : ¬t.val % 16 = 0) (h1 : ¬t.val % 16 = 15) (p : Fin 8) (k : Fin 1024) :
    (outsAt0 m c t.val t.isLt).2.2.2.2.1 (ix2 p k)
      = (show EReal from (outsAt0 m c (t.val - 1) (by omega)).2.2.2.2.1 (ix2 p k)) + dgB m c t p k := by
  rw [outsAt0_B m c t h0 h0 h1]; frame_out
  simp (decide := true) only [↓View.readCov_skip, View.readCov_cons_toLoadRect, read_unread_whole, wg_all, wu_all, wd_all,
    off0, off1, off2, off3, off4, off5, off6, off7, off8, off9, off10]
  exact gain_of _ _ _ _ (fB m c t) (chain _ _ _ _) _ p k

theorem gain_C (t : Fin cfg0.N) (h0 : ¬t.val % 16 = 0) (h1 : t.val % 16 = 15) (k : Fin 1024) :
    (outsAt0 m c t.val t.isLt).2.2.2.2.1 (ix2 0 k)
      = ∑ p : Fin 8, ((show EReal from (outsAt0 m c (t.val - 1) (by omega)).2.2.2.2.1 (ix2 p k)) + dgB m c t p k) := by
  rw [outsAt0_C m c t h0 h0 h1]; frame_out
  simp (decide := true) only [↓View.readCov_skip, View.readCov_cons_toLoadRect, read_unread_whole, wg_all, wu_all, wd_all,
    off0, off1, off2, off3, off4, off5, off6, off7, off8, off9, off10]
  have e : (ix2 0 k : S8x1024.Idx) = (Rect.unit (s := S8x1024) ![0, 0] ![1, 1024] inb_S8x1024_S1x1024_0_0).emb (ix2 0 k) := by
    blk_ext
  rw [e, View.canon_cons_emb, fold_row]
  exact Finset.sum_congr rfl fun p _ => gain_of _ _ _ _ (fB m c t) (chain _ _ _ _) _ p k

/-- One more block of a contents, before a list of them. -/
theorem pieces_cons {s : Shape} {e : EltTy} {W : s.Idx → Elt Ideal e} {p : View.Piece (Elt Ideal) s e} {L : List (View.Piece (Elt Ideal) s e)}
    (h : ∀ x : p.1.shape.Idx, p.2 x = W (p.1.emb x)) (hL : View.PiecesOf W L) : View.PiecesOf W (p :: L) := ⟨h, hL⟩

theorem pieces_nil {s : Shape} {e : EltTy} {W : s.Idx → Elt Ideal e} : View.PiecesOf (Val := Elt Ideal) W [] := trivial

/-- A part read back from a weight buffer that copied parts of `W` and has all of this part by now. -/
theorem rows_read (W : Vec Ideal S2816x1024 .bf16) (v : View sig .tc .vmem S2816x1024 .bf16)
    (L : List (View.Piece (Elt Ideal) S2816x1024 .bf16)) (r : Rect S2816x1024) (hp : View.PiecesOf W L)
    (hc : ∀ y ∈ r.set, ∃ p ∈ L, y ∈ p.1.set) : v.readCov L r.toLoadRect = View.ld W r := by
  rw [View.readCov_eq_canon']
  funext j
  have h := View.canon_append_of_piecesOf W [] L hp (r.emb j)
    (hc _ (by unfold LoadRect.set; simp only [Finset.mem_filter, Finset.mem_univ, true_and]; exact fun a => ⟨(j a).val, (j a).isLt, rfl⟩))
  rw [List.append_nil] at h
  exact h

/-- One part of the weights, as it comes out of the slab. -/
theorem piece_row (o : ℕ) (ho : o + 352 ≤ 1424) (a q : ℕ) (haq : a = 352 * q) (hq : q < 8) (inb : ∀ d, (![q, o, 0] : Fin 3 → ℕ) d + (![1, 352, 1024] : Fin 3 → ℕ) d ≤ S8x1424x1024.size d)
    (hn : S352x1024.numel = S1x352x1024.numel)
    (inb' : ∀ d, (![a, 0] : Fin 2 → ℕ) d + (![352, 1024] : Fin 2 → ℕ) d ≤ S2816x1024.size d) (x : S352x1024.Idx) :
    V m c main_v10 ((Rect.unit (s := S8x1424x1024) ![q, o, 0] ![1, 352, 1024] inb).emb
      (Shape.reshapeEquiv (s' := S352x1024) hn x))
      = slabAt m c o ho ((Rect.unit (s := S2816x1024) ![a, 0] ![352, 1024] inb').emb x 0)
          ((Rect.unit (s := S2816x1024) ![a, 0] ![352, 1024] inb').emb x 1) := by
  idx_vars x
  unfold slabAt
  have e0 : ((Rect.unit (s := S2816x1024) ![a, 0] ![352, 1024] inb').emb (ix2 x0 x1) 0).val = a + 1 * x0.val := rfl
  have e1 : ((Rect.unit (s := S2816x1024) ![a, 0] ![352, 1024] inb').emb (ix2 x0 x1) 1).val = 0 + 1 * x1.val := rfl
  refine congrArg _ (emb_row _ _ _ _ _ _ ?_ ?_ ?_)
  · change ((Rect.unit (s := S2816x1024) ![a, 0] ![352, 1024] inb').emb (ix2 x0 x1) 0).val / 352 = q
    rw [e0]; omega
  · change o + ((Rect.unit (s := S2816x1024) ![a, 0] ![352, 1024] inb').emb (ix2 x0 x1) 0).val % 352 = o + x0.val
    rw [e0]; omega
  · change ((Rect.unit (s := S2816x1024) ![a, 0] ![352, 1024] inb').emb (ix2 x0 x1) 1).val = 0 + x1.val
    rw [e1]; omega

theorem piece_read (W : Vec Ideal S2816x1024 .bf16) (o : ℕ) (ho : o + 352 ≤ 1424) (hW : W = fun i => slabAt m c o ho (i 0) (i 1))
    (a q : ℕ) (haq : a = 352 * q) (hq : q < 8) (inb : ∀ d, (![q, o, 0] : Fin 3 → ℕ) d + (![1, 352, 1024] : Fin 3 → ℕ) d ≤ S8x1424x1024.size d)
    (hn : S352x1024.numel = S1x352x1024.numel)
    (inb' : ∀ d, (![a, 0] : Fin 2 → ℕ) d + (![352, 1024] : Fin 2 → ℕ) d ≤ S2816x1024.size d) {L : List (View.Piece (Elt Ideal) S2816x1024 .bf16)} (hL : View.PiecesOf W L) :
    View.PiecesOf W (⟨Rect.unit (s := S2816x1024) ![a, 0] ![352, 1024] inb', ReadAs.same.apply (View.read (Elt Ideal)
      (((View.whole main_v10).slice (Rect.unit (s := S8x1424x1024) ![q, o, 0] ![1, 352, 1024] inb)).reshape S352x1024 hn) (V m c main_v10))⟩ :: L) := by
  subst hW
  exact ⟨piece_row m c o ho a q haq hq inb hn inb', hL⟩

theorem wg_read (L : List (View.Piece (Elt Ideal) S2816x1024 .bf16)) (r : Rect S2816x1024) (hp : View.PiecesOf (wgS m c) L)
    (hc : ∀ y ∈ r.set, ∃ p ∈ L, y ∈ p.1.set) :
    (View.whole cc0_scratch0).readCov L r.toLoadRect = View.ld (wgS m c) r := rows_read _ _ _ _ hp hc

theorem wu_read (L : List (View.Piece (Elt Ideal) S2816x1024 .bf16)) (r : Rect S2816x1024) (hp : View.PiecesOf (wuS m c) L)
    (hc : ∀ y ∈ r.set, ∃ p ∈ L, y ∈ p.1.set) :
    (View.whole cc0_scratch1).readCov L r.toLoadRect = View.ld (wuS m c) r := rows_read _ _ _ _ hp hc

theorem wd_read (L : List (View.Piece (Elt Ideal) S2816x1024 .bf16)) (r : Rect S2816x1024) (hp : View.PiecesOf (wdS m c) L)
    (hc : ∀ y ∈ r.set, ∃ p ∈ L, y ∈ p.1.set) :
    (View.whole cc0_scratch2).readCov L r.toLoadRect = View.ld (wdS m c) r := rows_read _ _ _ _ hp hc

set_option maxHeartbeats 4000000 in
theorem dx_A (t : Fin cfg0.N) (h0 : t.val % 16 = 0) (h1 : ¬t.val % 16 = 15) (i : Fin 512) (k : Fin 1024) :
    (outsAt0 m c t.val t.isLt).1 (ix2 i k) = doat (oB m c t i) (gB m c t) (tB m c t i) k := by
  rw [outsAt0_A m c t h0 h0 h1]; frame_out
  simp (decide := true) only [↓View.readCov_skip, View.readCov_cons_toLoadRect, read_unread_whole]
  repeat rw [wg_read m c]
  repeat rw [wu_read m c]
  repeat rw [wd_read m c]
  · exact do_of _ _ _ _ (fB m c t) (chain _ _ _ _) i k
  all_goals first
    | (intro y hy
       have h := Rect.mem_set_unit.mp hy
       have ha := h 0
       have hb := h 1
       simp only [List.mem_cons, List.not_mem_nil, or_false, exists_eq_or_imp, exists_eq_left, Rect.mem_set_unit, Fin.forall_fin_two,
         Matrix.cons_val_zero, Matrix.cons_val_one] at ha hb ⊢
       omega)
    | (repeat
         refine piece_read m c _ _ (by decide) (by rfl) _ _ (by decide) (by decide) _ _ _ ?_
       exact pieces_nil)

set_option maxHeartbeats 4000000 in
theorem gain_A (t : Fin cfg0.N) (h0 : t.val % 16 = 0) (h1 : ¬t.val % 16 = 15) (p : Fin 8) (k : Fin 1024) :
    (outsAt0 m c t.val t.isLt).2.2.2.2.1 (ix2 p k) = dgB m c t p k := by
  rw [outsAt0_A m c t h0 h0 h1]; frame_out
  simp (decide := true) only [↓View.readCov_skip, View.readCov_cons_toLoadRect, read_unread_whole]
  repeat rw [wg_read m c]
  repeat rw [wu_read m c]
  repeat rw [wd_read m c]
  · refine (gain_of _ _ _ _ (fB m c t) (chain _ _ _ _) _ p k).trans ?_
    rw [zero_row, zero_add]
    rfl
  all_goals first
    | (intro y hy
       have h := Rect.mem_set_unit.mp hy
       have ha := h 0
       have hb := h 1
       simp only [List.mem_cons, List.not_mem_nil, or_false, exists_eq_or_imp, exists_eq_left, Rect.mem_set_unit, Fin.forall_fin_two,
         Matrix.cons_val_zero, Matrix.cons_val_one] at ha hb ⊢
       omega)
    | (repeat
         refine piece_read m c _ _ (by decide) (by rfl) _ _ (by decide) (by decide) _ _ _ ?_
       exact pieces_nil)

set_option maxHeartbeats 4000000 in
theorem loss_A (t : Fin cfg0.N) (h0 : t.val % 16 = 0) (h1 : ¬t.val % 16 = 15) (p : Fin 8) (q : Fin 128) :
    (outsAt0 m c t.val t.isLt).2.2.2.2.2.1 (ix2 p q) = lossB m c t := by
  rw [outsAt0_A m c t h0 h0 h1]; frame_out
  simp (decide := true) only [↓View.readCov_skip, View.readCov_cons_toLoadRect, read_unread_whole]
  repeat rw [wg_read m c]
  repeat rw [wu_read m c]
  repeat rw [wd_read m c]
  · refine (loss_of _ _ _ _ (fB m c t) (chain _ _ _ _) _ p q).trans ?_
    rw [zero_loss, zero_add]
    rfl
  all_goals first
    | (intro y hy
       have h := Rect.mem_set_unit.mp hy
       have ha := h 0
       have hb := h 1
       simp only [List.mem_cons, List.not_mem_nil, or_false, exists_eq_or_imp, exists_eq_left, Rect.mem_set_unit, Fin.forall_fin_two,
         Matrix.cons_val_zero, Matrix.cons_val_one] at ha hb ⊢
       omega)
    | (repeat
         refine piece_read m c _ _ (by decide) (by rfl) _ _ (by decide) (by decide) _ _ _ ?_
       exact pieces_nil)

theorem dx_all (t : Fin cfg0.N) (i : Fin 512) (k : Fin 1024) :
    (outsAt0 m c t.val t.isLt).1 (ix2 i k) = doat (oB m c t i) (gB m c t) (tB m c t i) k := by
  have ht : t.val < 16 := t.isLt
  by_cases h0 : t.val % 16 = 0
  · exact dx_A m c t h0 (by omega) i k
  · by_cases h1 : t.val % 16 = 15
    · exact dx_C m c t h0 h1 i k
    · exact dx_B m c t h0 h1 i k

theorem gain_acc (n : ℕ) (h : n < 15) (p : Fin 8) (k : Fin 1024) :
    (outsAt0 m c n (lt_trans h (by decide))).2.2.2.2.1 (ix2 p k)
      = ∑ s : Fin (n + 1), dgB m c ⟨s.val, lt_of_lt_of_le s.isLt (le_trans (Nat.succ_le_of_lt h) (by decide))⟩ p k := by
  induction n with
  | zero =>
    rw [Fin.sum_univ_one]
    exact gain_A m c ⟨0, by decide⟩ rfl (by show ¬0 % 16 = 15; decide) p k
  | succ n ih =>
    rw [Fin.sum_univ_castSucc]
    refine (gain_B m c ⟨n + 1, lt_trans h (by decide)⟩ (by show ¬(n + 1) % 16 = 0; omega)
      (by show ¬(n + 1) % 16 = 15; omega) p k).trans ?_
    exact congrArg₂ (· + ·) (ih (by omega)) rfl

theorem gain_row (k : Fin 1024) :
    (outsAt0 m c 15 (by decide)).2.2.2.2.1 (ix2 0 k) = ∑ p : Fin 8, ∑ t : Fin 16, dgB m c t p k := by
  refine (gain_C m c ⟨15, by decide⟩ (by show ¬15 % 16 = 0; decide) rfl k).trans ?_
  refine Finset.sum_congr rfl fun p _ => ?_
  rw [Fin.sum_univ_castSucc]
  exact congrArg₂ (· + ·) (gain_acc m c 14 (by decide) p k) rfl

theorem loss_acc (n : ℕ) (h : n < 16) (p : Fin 8) (q : Fin 128) :
    (outsAt0 m c n h).2.2.2.2.2.1 (ix2 p q)
      = ∑ s : Fin (n + 1), lossB m c ⟨s.val, lt_of_lt_of_le s.isLt (Nat.succ_le_of_lt h)⟩ := by
  induction n with
  | zero =>
    rw [Fin.sum_univ_one]
    exact loss_A m c ⟨0, by decide⟩ rfl (by show ¬0 % 16 = 15; decide) p q
  | succ n ih =>
    rw [Fin.sum_univ_castSucc]
    refine Eq.trans ?_ (congrArg₂ (· + ·) (ih (by omega)) rfl)
    by_cases h1 : (n + 1) % 16 = 15
    · exact loss_C m c ⟨n + 1, h⟩ (by show ¬(n + 1) % 16 = 0; omega) h1 p q
    · exact loss_B m c ⟨n + 1, h⟩ (by show ¬(n + 1) % 16 = 0; omega) h1 p q

end Cert.Kernel3Ideal.Value
-- ==== Proof.Fwd.Rows.lean ====
/- The loss head over one row: the kernel's form of its gradients against the reference's. -/
module

public import proofs.«01_k».proof.Proof.Fwd.Chain

@[expose] public section

set_option maxRecDepth 16384

noncomputable section

open Idealize.ShloMosaic Idealize.ShloMosaic.TcCoe Idealize.SL.Sem

namespace Cert.Kernel3Ideal.Value
open Cert.KernelIdeal.Value (rs ms hidden rsq rs_coe bits_half bits_n bits_neghalf bits_eps)

/-- The half block's output row, from its input row, the norm's gain and the weights. -/
def orow (x g : Fin 1024 → EReal) (wg wu wd : Fin 1024 → Fin 2816 → EReal) (k : Fin 1024) : EReal :=
  outat (x k) (∑ J : Fin 2816, act (hidden x g fun l => wg l J) (hidden x g fun l => wu l J) * wd k J)

/-- The gradient at the normed output as the reference's differentiation composes it. -/
def rdyat (o g t : Fin 1024 → EReal) (k : Fin 1024) : EReal :=
  Ideal.div (Ideal.ofBits .f32 0x3F000000#32) (Ideal.ofBits .f32 0x44800000#32)
    * (Ideal.ofBits .f32 0x40000000#32 * errat o g t k)

/-- The gradient at the output as the reference composes it. -/
def rdoat (o g t : Fin 1024 → EReal) (k : Fin 1024) : EReal :=
  rdyat o g t k * g k * rs o + o k * rsq o g (rdyat o g t) + rsq o g (rdyat o g t) * o k

theorem bits_two : Ideal.ofBits .f32 0x40000000#32 = ((2 : ℝ) : EReal) := by
  simp [Ideal.ofBits, Ideal.ieee, -EReal.coe_mul, -EReal.coe_neg]; norm_num
theorem bits_inv : Ideal.ofBits .f32 0x3A800000#32 = ((1 / 1024 : ℝ) : EReal) := by
  simp [Ideal.ofBits, Ideal.ieee, -EReal.coe_mul, -EReal.coe_neg]; norm_num

/-- A factor that is a nonnegative real number goes through a sum of any terms. -/
theorem sum_mul_coe {n : ℕ} (f : Fin n → EReal) (r : ℝ) (hr : 0 ≤ r) : (∑ l, f l) * (r : EReal) = ∑ l, f l * (r : EReal) := by
  induction n with
  | zero => simp
  | succ n ih =>
    rw [Fin.sum_univ_succ, Fin.sum_univ_succ, EReal.right_distrib_of_nonneg_of_ne_top (EReal.coe_nonneg.mpr hr) (EReal.coe_ne_top r), ih]

/-- Two real multiples of one value, of the same sign. -/
theorem add_coe_mul (a : ℝ) (s : EReal) : (a : EReal) * s + (a : EReal) * s = ((2 * a : ℝ) : EReal) * s := by
  rcases lt_trichotomy a 0 with h | h | h
  · have h' : 2 * a < 0 := by linarith
    induction s with
    | bot => rw [EReal.coe_mul_bot_of_neg h, EReal.coe_mul_bot_of_neg h']; rfl
    | top => rw [EReal.coe_mul_top_of_neg h, EReal.coe_mul_top_of_neg h']; rfl
    | coe s => rw [← EReal.coe_mul, ← EReal.coe_mul, ← EReal.coe_add]; congr 1; ring
  · subst h; simp
  · have h' : 0 < 2 * a := by linarith
    induction s with
    | bot => rw [EReal.coe_mul_bot_of_pos h, EReal.coe_mul_bot_of_pos h']; rfl
    | top => rw [EReal.coe_mul_top_of_pos h, EReal.coe_mul_top_of_pos h']; rfl
    | coe s => rw [← EReal.coe_mul, ← EReal.coe_mul, ← EReal.coe_add]; congr 1; ring

/-- A row's mean square is a real number above zero, with every entry real, or it is infinite. -/
theorem ms_cases (o : Fin 1024 → EReal) : ms o = ⊤ ∨ ∃ O : Fin 1024 → ℝ, o = fun l => (O l : EReal) := by
  obtain ⟨e, he, hb⟩ := bits_eps
  by_cases h : ∃ k, o k = ⊤ ∨ o k = ⊥
  · obtain ⟨k, hk⟩ := h
    have hkk : o k * o k = ⊤ := by rcases hk with hk | hk <;> rw [hk] <;> rfl
    have h0 : ∀ l, 0 ≤ o l * o l := fun l => by
      rcases le_total 0 (o l) with h | h
      · exact EReal.mul_nonneg_iff.mpr (.inl ⟨h, h⟩)
      · exact EReal.mul_nonneg_iff.mpr (.inr ⟨h, h⟩)
    have hs : ∑ l, o l * o l = ⊤ := top_le_iff.mp (hkk ▸ Finset.single_le_sum (f := fun l => o l * o l) (fun l _ => h0 l) (Finset.mem_univ k))
    refine .inl ?_
    unfold ms
    rw [hs, hb, bits_n, Ideal.div_coe (by norm_num : (1024 : ℝ) ≠ 0), EReal.top_mul_coe_of_pos (by norm_num), EReal.top_add_coe]
  · simp only [not_exists, not_or] at h
    exact .inr ⟨fun l => (o l).toReal, funext fun l => (EReal.coe_toReal (h l).1 (h l).2).symm⟩

variable (o g t : Fin 1024 → EReal)

/-- The two forms of the gradient at the normed output agree. -/
theorem dy_equal : rdyat o g t = dyat o g t := by
  funext k
  unfold rdyat dyat
  rw [bits_half, bits_two, bits_n, bits_inv, Ideal.div_coe (by norm_num : (1024 : ℝ) ≠ 0), ← mul_assoc, ← EReal.coe_mul, ← EReal.coe_mul, mul_comm]
  congr 2
  norm_num

/-- The two forms of the gradient at the output agree. -/
theorem do_equal (k : Fin 1024) : rdoat o g t k = doat o g t k := by
  unfold rdoat doat
  rw [dy_equal]
  generalize dyat o g t = dy
  rcases ms_cases o with h | ⟨O, rfl⟩
  · have hr : rs o = 0 := by show Ideal.rsqrt (ms o) = 0; rw [h]; rfl
    have hq : rsq o g dy = 0 := by
      unfold rsq
      rw [hr, h, bits_n, Ideal.div_coe (by norm_num : (1024 : ℝ) ≠ 0)]
      simp [Ideal.div]
    rw [hr, hq]
    simp
  · obtain ⟨M, r, hM, hrM, hms, hr⟩ := rs_coe O
    have hr0 : 0 ≤ r := by
      have h : (r : EReal) = (((√M)⁻¹ : ℝ) : EReal) := by
        rw [← hr]
        show Ideal.rsqrt (ms fun l => (O l : EReal)) = _
        rw [hms, Ideal.rsqrt_coe, if_neg (not_lt.mpr hM.le), if_neg hM.ne']
      rw [EReal.coe_injective h]
      positivity
    have hMi : 1 / M = r * r := by field_simp; linarith
    unfold rsq
    rw [hms, hr, bits_n, bits_neghalf, Ideal.div_coe (by norm_num : (1024 : ℝ) ≠ 0), Ideal.div_coe hM.ne', Ideal.div_coe (by norm_num : (1024 : ℝ) ≠ 0)]
    have hsum : ∑ l, dy l * g l * ((O l : EReal) * (r : EReal)) = (r : EReal) * ∑ l, (O l : EReal) * (dy l * g l) := by
      rw [mul_comm, sum_mul_coe _ r hr0]
      refine Finset.sum_congr rfl fun l _ => ?_
      ac_rfl
    rw [hsum]
    generalize ∑ l, (O l : EReal) * (dy l * g l) = S
    have e1 : (O k : EReal) * (S * (((-1 / 2 : ℝ) : EReal) * ((r : EReal) * ((1 / M : ℝ) : EReal))) * ((1 / 1024 : ℝ) : EReal))
        = ((-(O k * r * r * r * (1 / 2048)) : ℝ) : EReal) * S := by
      have h : -(O k * r * r * r * (1 / 2048)) = O k * (-1 / 2) * r * (1 / M) * (1 / 1024) := by rw [hMi]; ring
      rw [h]
      simp only [EReal.coe_mul]
      ac_rfl
    have e2 : (r : EReal) * -((O k : EReal) * (r : EReal) * ((r : EReal) * S * ((1 / 1024 : ℝ) : EReal)))
        = ((2 * -(O k * r * r * r * (1 / 2048)) : ℝ) : EReal) * S := by
      have h : 2 * -(O k * r * r * r * (1 / 2048)) = -(r * O k * r * r * (1 / 1024)) := by ring
      rw [h, EReal.coe_neg, neg_mul, mul_neg]
      simp only [EReal.coe_mul]
      ac_rfl
    rw [sub_eq_add_neg, EReal.left_distrib_of_nonneg_of_ne_top (EReal.coe_nonneg.mpr hr0) (EReal.coe_ne_top r), e2, ← add_coe_mul, add_assoc,
      mul_comm _ (O k : EReal), e1, mul_comm (r : EReal)]

/-- The halved sums of the tiles' losses make half the sum over all the rows. -/
theorem half_sums (f : Fin 8192 → EReal) :
    ∑ t : Fin 16, Ideal.ofBits .f32 0x3F000000#32 * ∑ i : Fin 512, f ⟨t.val * 512 + i.val, by omega⟩
      = Ideal.ofBits .f32 0x3F000000#32 * ∑ T, f T := by
  rw [Fin.sum_univ_tiles 16 512 rfl, bits_half, mul_comm, sum_mul_coe _ _ (by norm_num)]
  exact Finset.sum_congr rfl fun t _ => mul_comm _ _

end Cert.Kernel3Ideal.Value
-- ==== Proof.Fwd.Operands.lean ====
module

public import proofs.«01_k».proof.Proof.Fwd.Weights
public import proofs.«01_k».proof.Proof.Fwd.Rows

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
open Cert.KernelIdeal.Value (rs hidden)

variable (m : (ℓ : Loc nD τ sig) → Buf (Elt Ideal) ℓ) (c : Dev nD)

/-- Where every window's block lies, at every point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_8.index t = ![0, 0] ∧ win0_9.index t = ![0, 0] :=
  (by decide +kernel : ∀ t : Fin grid0.N, _)

/-- The arguments' arrays. -/
def aX : FVec Ideal S8192x1024 .f32 := m ((c : Thread nD τ).loc main_arg0)
def aN : FVec Ideal S1024 .f32 := m ((c : Thread nD τ).loc main_arg1)
def aG : FVec Ideal S1024x2816 .f32 := m ((c : Thread nD τ).loc main_arg2)
def aU : FVec Ideal S1024x2816 .f32 := m ((c : Thread nD τ).loc main_arg3)
def aD : FVec Ideal S2816x1024 .f32 := m ((c : Thread nD τ).loc main_arg4)
def aT : FVec Ideal S8192x1024 .f32 := m ((c : Thread nD τ).loc main_arg6)
def aF : FVec Ideal S1024 .f32 := m ((c : Thread nD τ).loc main_arg7)

/-- The place of a block's row in the whole array. -/
def row (t : Fin cfg0.N) (i : Fin 512) : Fin 8192 := ⟨t.val * 512 + i.val, by have : t.val < 16 := t.isLt; omega⟩

theorem blk0 (t : Fin cfg0.N) (i : Fin 512) (k : Fin 1024) : iblk m c 0 t (ix2 i k) = aX m c (ix2 (row t i) k) := by
  unfold aX row
  blk_point [iblk, V, idx t]

theorem blk2 (t : Fin cfg0.N) (i : Fin 512) (k : Fin 1024) : iblk m c 2 t (ix2 i k) = aT m c (ix2 (row t i) k) := by
  unfold aT row
  blk_point [iblk, V, idx t]

theorem V_eq (b : Ref sig .tc) : V m c b = StableHlo.after (hostOps0 (F := Ideal)) (fun b => m (c, b)) (Proc.tc.devRef b) := rfl

theorem nrow (k : Fin 1024) : V m c main_v11 (ix2 0 k) = aN m c (ix1 k) := by
  rw [V_eq]; entry_read
  pointwise
  rfl

theorem frow (k : Fin 1024) : V m c main_v12 (ix2 0 k) = aF m c (ix1 k) := by
  rw [V_eq]; entry_read
  pointwise
  rfl

theorem blk1 (t : Fin cfg0.N) (k : Fin 1024) : iblk m c 1 t (ix2 0 k) = aN m c (ix1 k) := by
  rw [← nrow]
  blk_point [iblk, idx t]

theorem blk3 (t : Fin cfg0.N) (k : Fin 1024) : iblk m c 3 t (ix2 0 k) = aF m c (ix1 k) := by
  rw [← frow]
  blk_point [iblk, idx t]

/-- The rows of the three weights, one under another. -/
theorem part_eq : V m c main_v8 = concatenate S8x1056x1024 1 [⟨S8x352x1024, V m c main_v3⟩, ⟨S8x352x1024, V m c main_v5⟩, ⟨S8x352x1024, V m c main_v7⟩]
    concatenates_S8x352x1024_S8x352x1024_S8x352x1024_S8x1056x1024_d1 := by
  have e : hostOps0 (F := Ideal) = (List.take 8 hostOps0 ++ [_]) ++ List.drop 9 hostOps0 := rfl
  rw [V_eq m c main_v8, V_eq m c main_v3, V_eq m c main_v5, V_eq m c main_v7]
  rw [e, StableHlo.after_append]
  have keep : ∀ W b, b ∈ [main_v8, main_v3, main_v5, main_v7] → StableHlo.after (List.drop 9 (hostOps0 (F := Ideal))) W (Proc.tc.devRef b) = W (Proc.tc.devRef b) := by
    intro W b hb
    fin_cases hb <;> rfl
  rw [keep _ main_v8 (by decide), keep _ main_v3 (by decide), keep _ main_v5 (by decide), keep _ main_v7 (by decide), StableHlo.after_append]
  generalize StableHlo.after (List.take 8 (hostOps0 (F := Ideal))) (fun b => m (c, b)) = W
  simp only [StableHlo.after_cons, StableHlo.after_nil]
  rw [StableHlo.nary_result, StableHlo.nary_result_ne, StableHlo.nary_result_ne, StableHlo.nary_result_ne]
  · rfl
  all_goals decide

theorem slab_eq : V m c main_v10 = concatenate S8x1424x1024 1 [⟨S8x1056x1024, V m c main_v8⟩, ⟨S8x368x1024, V m c main_v9⟩]
    concatenates_S8x1056x1024_S8x368x1024_S8x1424x1024_d1 := by
  have e : hostOps0 (F := Ideal) = (List.take 10 hostOps0 ++ [_]) ++ List.drop 11 hostOps0 := rfl
  rw [V_eq m c main_v10, V_eq m c main_v8, V_eq m c main_v9]
  rw [e, StableHlo.after_append]
  have keep : ∀ W b, b ∈ [main_v10, main_v8, main_v9] → StableHlo.after (List.drop 11 (hostOps0 (F := Ideal))) W (Proc.tc.devRef b) = W (Proc.tc.devRef b) := by
    intro W b hb
    fin_cases hb <;> rfl
  rw [keep _ main_v10 (by decide), keep _ main_v8 (by decide), keep _ main_v9 (by decide), StableHlo.after_append]
  generalize StableHlo.after (List.take 10 (hostOps0 (F := Ideal))) (fun b => m (c, b)) = W
  rfl

theorem v3 (p : Fin 8) (q : Fin 352) (k : Fin 1024) : V m c main_v3 (ix3 p q k) = aG m c (ix2 k ⟨p.val * 352 + q.val, by omega⟩) := by
  rw [V_eq]; entry_read
  pointwise [aG]
theorem v5 (p : Fin 8) (q : Fin 352) (k : Fin 1024) : V m c main_v5 (ix3 p q k) = aU m c (ix2 k ⟨p.val * 352 + q.val, by omega⟩) := by
  rw [V_eq]; entry_read
  pointwise [aU]
theorem v7 (p : Fin 8) (q : Fin 352) (k : Fin 1024) : V m c main_v7 (ix3 p q k) = aD m c (ix2 ⟨p.val * 352 + q.val, by omega⟩ k) := by
  rw [V_eq]; entry_read
  pointwise [aD]

theorem slab_row (p : Fin 8) (q : Fin 1424) (hq : q.val < 1056) (k : Fin 1024) :
    V m c main_v10 (ix3 p q k) = V m c main_v8 (ix3 p ⟨q.val, hq⟩ k) := by
  rw [slab_eq]
  pointwise
  exact dif_pos hq

theorem wg_at (J : Fin 2816) (k : Fin 1024) : wgS m c (ix2 J k) = aG m c (ix2 k J) := by
  have hJ := J.isLt
  have h := v3 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wgS slabAt
  refine (slab_row m c _ _ (by show 0 + J.val % 352 < 1056; omega) k).trans ?_
  rw [part_eq]
  pointwise
  exact dif_pos (by omega)
theorem wu_at (J : Fin 2816) (k : Fin 1024) : wuS m c (ix2 J k) = aU m c (ix2 k J) := by
  have hJ := J.isLt
  have h := v5 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wuS slabAt
  refine (slab_row m c _ _ (by show 352 + J.val % 352 < 1056; omega) k).trans ?_
  rw [part_eq]
  pointwise
  exact dif_pos (by omega)
theorem wd_at (J : Fin 2816) (k : Fin 1024) : wdS m c (ix2 J k) = aD m c (ix2 J k) := by
  have hJ := J.isLt
  have h := v7 m c ⟨J.val / 352, by omega⟩ ⟨J.val % 352, by omega⟩ k
  have hj : (⟨J.val / 352 * 352 + J.val % 352, by omega⟩ : Fin 2816) = J := Fin.ext (by show J.val / 352 * 352 + J.val % 352 = J.val; omega)
  rw [hj] at h
  rw [← h]
  unfold wdS slabAt
  refine (slab_row m c _ _ (by show 704 + J.val % 352 < 1056; omega) k).trans ?_
  rw [part_eq]
  pointwise
  rw [dif_neg (by omega), dif_neg (by omega)]
  exact congrArg (fun q => V m c main_v7 (ix3 _ q k)) (Fin.ext (by show 704 + J.val % 352 - 352 - 352 = J.val % 352; omega))

/-- One row of the half block's output. -/
def ko (T : Fin 8192) : Fin 1024 → EReal :=
  orow (fun l => aX m c (ix2 T l)) (fun l => aN m c (ix1 l)) (fun l J => aG m c (ix2 l J)) (fun l J => aU m c (ix2 l J))
    fun l J => aD m c (ix2 J l)

/-- The last norm's gain. -/
def kf : Fin 1024 → EReal := fun l => aF m c (ix1 l)

/-- The target, one row. -/
def kt (T : Fin 8192) : Fin 1024 → EReal := fun l => aT m c (ix2 T l)

theorem out_at (t : Fin cfg0.N) (i : Fin 512) (k : Fin 1024) :
    outat (iblk m c 0 t (ix2 i k)) (prod (k0_pay2 (iblk m c 0 t) (iblk m c 1 t)) (wgS m c) (wuS m c) (wdS m c) i k)
      = ko m c (row t i) k := by
  unfold ko orow prod part Cert.KernelIdeal.Value.hidden
  rw [Fin.sum_univ_tiles 11 256 rfl]
  simp only [wg_at, wu_at, wd_at, norm_at, blk0, blk1]

end Cert.Kernel3Ideal.Value
-- ==== Proof.Fwd.Arrays.lean ====
module

public import proofs.«01_k».proof.Proof.Fwd.Point
public import Idealize.ShloMosaic.Lib.Claim
public import proofs.«01_k».proof.Proof.Fwd.Operands

@[expose] public section

set_option maxRecDepth 16384

noncomputable section

open Idealize.ShloMosaic Idealize.ShloMosaic.TcCoe Idealize.SL.Sem
open Idealize.ShloMosaic.Pipeline (Dat)

namespace Cert.Kernel3Ideal.Value
open Cert.Kernel3Ideal Cert.Kernel3Ideal.Gen
open Cert.KernelIdeal.Value (rs)

variable (m : (ℓ : Loc nD τ sig) → Buf (Elt Ideal) ℓ) (c : Dev nD)

/-- The gradient at the half block's output, everywhere. -/
def gdo : FVec Ideal S8192x1024 .f32 := fun i => doat (ko m c (i 0)) (kf m c) (kt m c (i 0)) (i 1)

/-- The gradient of the last norm's gain, everywhere. -/
def gdf : FVec Ideal S1024 .f32 := fun i =>
  ∑ T : Fin 8192, dyat (ko m c T) (kf m c) (kt m c T) (i 0) * (ko m c T (i 0) * rs (ko m c T))

/-- The loss: the tiles' halved sums of the rows' losses. -/
def gloss : FVec Ideal S_ .f32 := fun _ =>
  ∑ t : Fin 16, Ideal.ofBits .f32 0x3F000000#32 * ∑ i : Fin 512, lossrow (ko m c ⟨t.val * 512 + i.val, by omega⟩) (kf m c)
    (kt m c ⟨t.val * 512 + i.val, by omega⟩)

theorem oB_at (t : Fin cfg0.N) (i : Fin 512) : oB m c t i = ko m c (row t i) := by
  funext k
  unfold oB fB
  exact out_at m c t i k

theorem gB_at (t : Fin cfg0.N) : gB m c t = kf m c := funext fun k => blk3 m c t k

theorem tB_at (t : Fin cfg0.N) (i : Fin 512) : tB m c t i = kt m c (row t i) := funext fun k => blk2 m c t i k

theorem dgB_at (t : Fin cfg0.N) (p : Fin 8) (k : Fin 1024) : dgB m c t p k
    = ∑ q : Fin 64, dyat (ko m c (row t ⟨q.val * 8 + p.val, by omega⟩)) (kf m c) (kt m c (row t ⟨q.val * 8 + p.val, by omega⟩)) k
        * (ko m c (row t ⟨q.val * 8 + p.val, by omega⟩) k * rs (ko m c (row t ⟨q.val * 8 + p.val, by omega⟩))) := by
  unfold dgB
  simp only [oB_at, gB_at, tB_at]

theorem lossB_at (t : Fin cfg0.N) : lossB m c t
    = Ideal.ofBits .f32 0x3F000000#32 * ∑ i : Fin 512, lossrow (ko m c (row t i)) (kf m c) (kt m c (row t i)) := by
  unfold lossB
  simp only [oB_at, gB_at, tB_at]

theorem arr4 : (dats m 0 c).arrAt 4 (cfgs 0).N = gdo m c := by
  refine (dats m 0 c).arrAt_eq_of_covers 4 _ (by decide +kernel) fun t hf y => ?_
  blk_simp
  rw [after0_4]
  idx_vars y
  refine (dx_all m c t y0 y1).trans ?_
  rw [oB_at, gB_at, tB_at]
  change gdo m c (ix2 (row t y0) y1) = _
  unfold row
  blk_ext [idx t]

theorem rows_sum (f : Fin 8192 → EReal) :
    ∑ p : Fin 8, ∑ t : Fin 16, ∑ q : Fin 64, f ⟨t.val * 512 + (q.val * 8 + p.val), by omega⟩ = ∑ T, f T := by
  rw [Fin.sum_univ_tiles 16 512 rfl f, Finset.sum_comm]
  refine Finset.sum_congr rfl fun t _ => ?_
  rw [Fin.sum_univ_tiles 64 8 rfl, Finset.sum_comm]

/-- What a point leaves of the gain's partial sums, and of the loss. -/
def sums (n : ℕ) (hn : n < cfg0.N) : Vec Ideal S8x1024 .f32 := (outsAt0 m c n hn).2.2.2.2.1
def losses (n : ℕ) (hn : n < cfg0.N) : Vec Ideal S8x128 .f32 := (outsAt0 m c n hn).2.2.2.2.2.1

theorem after_sums (t : Fin cfg0.N) : (dats m 0 c).after 8 t = sums m c t.val t.isLt := after0_8 m c t
theorem after_losses (t : Fin cfg0.N) : (dats m 0 c).after 9 t = losses m c t.val t.isLt := after0_9 m c t

theorem sums_last (n : ℕ) (hn : n < cfg0.N) (h : n = 15) : sums m c n hn = sums m c 15 (by decide) := by
  subst h; rfl
theorem losses_last (n : ℕ) (hn : n < cfg0.N) (h : n = 15) : losses m c n hn = losses m c 15 (by decide) := by
  subst h; rfl

/-- The partial sums' array is what the last point leaves: the one block is written back there only. -/
theorem arr8_last : (dats m 0 c).arrAt 8 (cfgs 0).N = sums m c 15 (by decide) := by
  refine (dats m 0 c).arrAt_eq_of_covers 8 _ (by decide +kernel) fun t hf y => ?_
  have ht : t.val = 15 := by
    have h1 := (flush0_8 t).mp hf
    have h2 : t.val < 16 := t.isLt
    omega
  blk_simp
  rw [after_sums, sums_last m c t.val t.isLt ht]
  generalize sums m c 15 _ = A
  idx_vars y
  blk_ext [idx t]

/-- So is the loss's. -/
theorem arr9_last : (dats m 0 c).arrAt 9 (cfgs 0).N = losses m c 15 (by decide) := by
  refine (dats m 0 c).arrAt_eq_of_covers 9 _ (by decide +kernel) fun t hf y => ?_
  have ht : t.val = 15 := by
    have h1 := (flush0_9 t).mp hf
    have h2 : t.val < 16 := t.isLt
    omega
  blk_simp
  rw [after_losses, losses_last m c t.val t.isLt ht]
  generalize losses m c 15 _ = A
  idx_vars y
  blk_ext [idx t]

theorem arr8 (k : Fin 1024) : (dats m 0 c).arrAt 8 (cfgs 0).N (ix2 0 k) = gdf m c (ix1 k) := by
  refine (congrFun (arr8_last m c) _).trans ((gain_row m c k).trans
    ((Finset.sum_congr rfl fun p _ => Finset.sum_congr rfl fun t _ => dgB_at m c t p k).trans ?_))
  exact rows_sum fun T => dyat (ko m c T) (kf m c) (kt m c T) k * (ko m c T k * rs (ko m c T))

theorem arr9 : (dats m 0 c).arrAt 9 (cfgs 0).N (ix2 0 0) = gloss m c ix0 := by
  refine (congrFun (arr9_last m c) _).trans ((loss_acc m c 15 (by decide) 0 0).trans ?_)
  exact Finset.sum_congr rfl fun t _ => lossB_at m c t

/-- The gain's gradient as the lines after the call leave it: row 0 of the partial sums. -/
theorem tail17 : Pipeline.afterTail₀ cfgs (dats m) 0 (V0 m) [hostOps1] c main_v17 = gdf m c := by
  unfold Pipeline.afterTail₀
  have hw := Pipeline.withArrays_arr (cfgs 0).spec (by decide) c (V0 m c) (fun w => (dats m 0 c).arrAt w (cfgs 0).N) 8
  generalize Pipeline.withArrays (cfgs 0).spec c (V0 m c) (fun w => (dats m 0 c).arrAt w (cfgs 0).N) = W at hw ⊢
  have e : StableHlo.after ([hostOps1 (F := Ideal)]).flatten W (Proc.devRef .tc main_v17)
      = shapeCast S1024 (extractStridedSlice S1x1024 ![0, 0] (W (Proc.devRef .tc main_v13_4)) slices_S8x1024_S1x1024_0_0) shapeCasts_S1x1024_S1024 := by
    rfl
  rw [e]
  funext i
  idx_vars i
  pointwise
  exact (congrFun hw _).trans (arr8 m c _)

/-- The loss: the one entry taken of its block. -/
theorem tail15 : Pipeline.afterTail₀ cfgs (dats m) 0 (V0 m) [hostOps1] c main_v15 = gloss m c := by
  unfold Pipeline.afterTail₀
  have hw := Pipeline.withArrays_arr (cfgs 0).spec (by decide) c (V0 m c) (fun w => (dats m 0 c).arrAt w (cfgs 0).N) 9
  generalize Pipeline.withArrays (cfgs 0).spec c (V0 m c) (fun w => (dats m 0 c).arrAt w (cfgs 0).N) = W at hw ⊢
  have e : StableHlo.after ([hostOps1 (F := Ideal)]).flatten W (Proc.devRef .tc main_v15)
      = shapeCast S_ (extractStridedSlice S1x1 ![0, 0] (W (Proc.devRef .tc main_v13_5)) slices_S8x128_S1x1_0_0) shapeCasts_S1x1_S_ := by
    rfl
  rw [e]
  funext i
  obtain rfl : i = ix0 := funext fun a => a.elim0
  pointwise
  exact (congrFun hw _).trans (arr9 m c)

/-- The whole run: the three results, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v15) = gloss m c
      ∧ r.2.mem ((c.tc : Thread nD τ).loc main_v13_0) = gdo m c
      ∧ r.2.mem ((c.tc : Thread nD τ).loc main_v17) = gdf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).2 main_v15 (by decide)).trans (tail15 m c), ((h.1 c).1 4).trans (arr4 m c),
      ((h.1 c).2 main_v17 (by decide)).trans (tail17 m c), h.2 c⟩)
    (θ_run_and (run_main m ρ) (unchanged m ρ))

end Cert.Kernel3Ideal.Value
-- ==== Proof.Fwd.Ref.lean ====
module

public import proofs.«01_k».proof.Proof.Fwd.Rows
public import proofs.«01_k».proof.Proof.Gen.Reference3Ideal.Run

@[expose] public section

set_option maxRecDepth 16384

noncomputable section

open Idealize.ShloMosaic Idealize.ShloMosaic.TcCoe Idealize.SL.Sem

namespace Cert.Reference3Ideal.Value
open Cert.Reference3Ideal Cert.Reference3Ideal.Gen
open Cert.KernelIdeal.Value (rs ms sq hidden rsq)
open Cert.Kernel3Ideal.Value (orow outat act errat lossrow rdyat rdoat)

variable (m : (ℓ : Loc nD τ sig) → Buf (Elt Ideal) ℓ) (c : Dev nD)

/-- The arguments' arrays. -/
def aX : FVec Ideal S8192x1024 .f32 := m ((c : Thread nD τ).loc main_arg0)
def aN : FVec Ideal S1024 .f32 := m ((c : Thread nD τ).loc main_arg1)
def aG : FVec Ideal S1024x2816 .f32 := m ((c : Thread nD τ).loc main_arg2)
def aU : FVec Ideal S1024x2816 .f32 := m ((c : Thread nD τ).loc main_arg3)
def aD : FVec Ideal S2816x1024 .f32 := m ((c : Thread nD τ).loc main_arg4)
def aT : FVec Ideal S8192x1024 .f32 := m ((c : Thread nD τ).loc main_arg6)
def aF : FVec Ideal S1024 .f32 := m ((c : Thread nD τ).loc main_arg7)

theorem args : m ((c : Thread nD τ).loc main_arg0) = aX m c ∧ m ((c : Thread nD τ).loc main_arg1) = aN m c
    ∧ m ((c : Thread nD τ).loc main_arg2) = aG m c ∧ m ((c : Thread nD τ).loc main_arg3) = aU m c
    ∧ m ((c : Thread nD τ).loc main_arg4) = aD m c ∧ m ((c : Thread nD τ).loc main_arg6) = aT m c
    ∧ m ((c : Thread nD τ).loc main_arg7) = aF m c := ⟨rfl, rfl, rfl, rfl, rfl, rfl, rfl⟩

/-- The half block's output, one row. -/
def ro (T : Fin 8192) : Fin 1024 → EReal :=
  orow (fun l => aX m c (ix2 T l)) (fun l => aN m c (ix1 l)) (fun l J => aG m c (ix2 l J)) (fun l J => aU m c (ix2 l J))
    fun l J => aD m c (ix2 J l)

/-- The last norm's gain. -/
def rf : Fin 1024 → EReal := fun l => aF m c (ix1 l)

/-- The target, one row. -/
def rt (T : Fin 8192) : Fin 1024 → EReal := fun l => aT m c (ix2 T l)

theorem gain_at (k : Fin 1024) : res_main_v57 m c (ix1 k)
    = ∑ T : Fin 8192, ro m c T k * rs (ro m c T) * rdyat (ro m c T) (rf m c) (rt m c T) k := by
  unfold res_main_v57
  pointwise
  simp only [args m c, Finset.sum_const, Finset.card_univ, Fintype.card_fin, one_smul]
  rfl

theorem dx_at (T : Fin 8192) (k : Fin 1024) : res_main_v71 m c (ix2 T k) = rdoat (ro m c T) (rf m c) (rt m c T) k := by
  unfold res_main_v71
  pointwise
  simp only [args m c, Finset.sum_const, Finset.card_univ, Fintype.card_fin, one_smul]
  rfl

theorem loss_at : res_main_v45 m c ix0
    = Ideal.ofBits .f32 0x3F000000#32 * ∑ T : Fin 8192, lossrow (ro m c T) (rf m c) (rt m c T) := by
  unfold res_main_v45
  pointwise
  simp only [args m c, Finset.sum_const, Finset.card_univ, Fintype.card_fin, one_smul]
  rfl

end Cert.Reference3Ideal.Value
-- ==== Proof.Fwd.Equal.lean ====
module

public import proofs.«01_k».proof.Proof.Fwd.Arrays
public import proofs.«01_k».proof.Proof.Fwd.Ref

@[expose] public section

set_option maxRecDepth 16384

noncomputable section

open Idealize.ShloMosaic Idealize.ShloMosaic.TcCoe Idealize.SL.Sem

namespace Cert.Kernel3Ideal.Value
open Cert.Kernel3Ideal Cert.Kernel3Ideal.Gen

variable (m : (ℓ : Loc nD τ sig) → Buf (Elt Ideal) ℓ)
  (m' : (ℓ : Loc Cert.Reference3Ideal.nD Cert.Reference3Ideal.τ Cert.Reference3Ideal.sig) → Buf (Elt Ideal) ℓ) (c : Dev nD)
  (hX : Cert.Reference3Ideal.Value.aX m' c = aX m c) (hN : Cert.Reference3Ideal.Value.aN m' c = aN m c)
  (hG : Cert.Reference3Ideal.Value.aG m' c = aG m c) (hU : Cert.Reference3Ideal.Value.aU m' c = aU m c)
  (hD : Cert.Reference3Ideal.Value.aD m' c = aD m c) (hT : Cert.Reference3Ideal.Value.aT m' c = aT m c)
  (hF : Cert.Reference3Ideal.Value.aF m' c = aF m c)

include hX hN hG hU hD hT hF in
/-- The reference's rows are the kernel's. -/
theorem rows_ref : Cert.Reference3Ideal.Value.ro m' c = ko m c ∧ Cert.Reference3Ideal.Value.rf m' c = kf m c
    ∧ Cert.Reference3Ideal.Value.rt m' c = kt m c := by
  unfold Cert.Reference3Ideal.Value.ro Cert.Reference3Ideal.Value.rf Cert.Reference3Ideal.Value.rt
  rw [hX, hN, hG, hU, hD, hT, hF]
  exact ⟨rfl, rfl, rfl⟩

include hX hN hG hU hD hT hF in
theorem dx_equal : Cert.Reference3Ideal.Value.res_main_v71 m' c = gdo m c := by
  funext i
  idx_vars i
  refine (Cert.Reference3Ideal.Value.dx_at m' c i0 i1).trans ?_
  obtain ⟨h1, h2, h3⟩ := rows_ref m m' c hX hN hG hU hD hT hF
  rw [h1, h2, h3, do_equal]
  rfl

include hX hN hG hU hD hT hF in
theorem gain_equal : Cert.Reference3Ideal.Value.res_main_v57 m' c = gdf m c := by
  funext i
  idx_vars i
  refine (Cert.Reference3Ideal.Value.gain_at m' c i0).trans
    (Finset.sum_congr rfl fun T _ => ?_ : (_ : EReal) = ∑ T : Fin 8192, dyat (ko m c T) (kf m c) (kt m c T) i0 * (ko m c T i0 * Cert.KernelIdeal.Value.rs (ko m c T)))
  obtain ⟨h1, h2, h3⟩ := rows_ref m m' c hX hN hG hU hD hT hF
  rw [h1, h2, h3, dy_equal]
  exact mul_comm _ _

include hX hN hG hU hD hT hF in
theorem loss_equal : Cert.Reference3Ideal.Value.res_main_v45 m' c = gloss m c := by
  funext i
  obtain rfl : i = ix0 := funext fun a => a.elim0
  refine (Cert.Reference3Ideal.Value.loss_at m' c).trans ?_
  obtain ⟨h1, h2, h3⟩ := rows_ref m m' c hX hN hG hU hD hT hF
  rw [h1, h2, h3]
  exact (half_sums fun T => lossrow (ko m c T) (kf m c) (kt m c T)).symm

end Cert.Kernel3Ideal.Value
-- ==== Proof.Mix.Same.lean ====
/- Each machine-float program and its ideal copy have one text. Here they are shown to be one program for every float
values `F`, so that one run serves both frames: the region body, the procedures and the host program in turn. -/
module

public import proofs.«01_k».proof.Proof.Gen.Kernel4
public import proofs.«01_k».proof.Proof.Gen.Kernel4Ideal
public import proofs.«01_k».proof.Proof.Gen.Kernel5
public import proofs.«01_k».proof.Proof.Gen.Kernel5Ideal
public import proofs.«01_k».proof.Proof.Gen.Kernel6
public import proofs.«01_k».proof.Proof.Gen.Kernel6Ideal

@[expose] public section

set_option maxRecDepth 16384
set_option maxHeartbeats 4000000

noncomputable section

namespace Cert.Mix

open Idealize.ShloMosaic

variable {F : FTy → Type} [FloatOps F]

theorem dwout_bodies : @Cert.Kernel4.defs₀ F _ Cert.Kernel4.Gen.facts = @Cert.Kernel4Ideal.defs₀ F _ Cert.Kernel4Ideal.Gen.facts := by
  unfold Cert.Kernel4.defs₀ Cert.Kernel4Ideal.defs₀
  refine congrArg Defs.onTc ?_
  funext k x
  match k, x with
  | 0, (t, s) => exact rfl

theorem dwout_defs : @Cert.Kernel4Ideal.defs F _ Cert.Kernel4Ideal.Gen.facts = @Cert.Kernel4.defs F _ Cert.Kernel4.Gen.facts :=
  congrArg (Pipeline.defs (@Cert.Kernel4Ideal.pcfgs F _)) dwout_bodies.symm

theorem dwout_main : @Cert.Kernel4Ideal.main F _ Cert.Kernel4Ideal.Gen.facts = @Cert.Kernel4.main F _ Cert.Kernel4.Gen.facts := rfl

theorem dpw_bodies : @Cert.Kernel5.defs₀ F _ Cert.Kernel5.Gen.facts = @Cert.Kernel5Ideal.defs₀ F _ Cert.Kernel5Ideal.Gen.facts := by
  unfold Cert.Kernel5.defs₀ Cert.Kernel5Ideal.defs₀
  refine congrArg Defs.onTc ?_
  funext k x
  match k, x with
  | 0, (t, s) => exact rfl

theorem dpw_defs : @Cert.Kernel5Ideal.defs F _ Cert.Kernel5Ideal.Gen.facts = @Cert.Kernel5.defs F _ Cert.Kernel5.Gen.facts :=
  congrArg (Pipeline.defs (@Cert.Kernel5Ideal.pcfgs F _)) dpw_bodies.symm

theorem dpw_main : @Cert.Kernel5Ideal.main F _ Cert.Kernel5Ideal.Gen.facts = @Cert.Kernel5.main F _ Cert.Kernel5.Gen.facts := rfl

theorem dwin_bodies : @Cert.Kernel6.defs₀ F _ Cert.Kernel6.Gen.facts = @Cert.Kernel6Ideal.defs₀ F _ Cert.Kernel6Ideal.Gen.facts := by
  unfold Cert.Kernel6.defs₀ Cert.Kernel6Ideal.defs₀
  refine congrArg Defs.onTc ?_
  funext k x
  match k, x with
  | 0, (t, s) => exact rfl

theorem dwin_defs : @Cert.Kernel6Ideal.defs F _ Cert.Kernel6Ideal.Gen.facts = @Cert.Kernel6.defs F _ Cert.Kernel6.Gen.facts :=
  congrArg (Pipeline.defs (@Cert.Kernel6Ideal.pcfgs F _)) dwin_bodies.symm

theorem dwin_main : @Cert.Kernel6Ideal.main F _ Cert.Kernel6Ideal.Gen.facts = @Cert.Kernel6.main F _ Cert.Kernel6.Gen.facts := rfl

end Cert.Mix

end
-- ==== Proof.Mix.Dwout.lean ====
/- The gradient of the mixer's output projection: the sum of the grid steps' products is the product over all the rows. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Value
open Cert.Kernel4Ideal Cert.Kernel4Ideal.Gen

variable (m : (ℓ : Loc nD τ sig) → Buf (Elt Ideal) ℓ) (c : Dev nD)

/-- Where every window's block lies, at every point. -/
theorem idx : ∀ t : Fin cfg0.N, win0_0.index t = ![t.val, 0] ∧ win0_1.index t = ![t.val, 0] ∧ win0_2.index t = ![0, 0] :=
  (by decide +kernel : ∀ t : Fin grid0.N, _)

/-- The two operands' rows. -/
def aA : FVec Ideal S8192x1024 .f32 := m ((c : Thread nD τ).loc main_arg0)
def aB : FVec Ideal S8192x1024 .f32 := m ((c : Thread nD τ).loc main_arg1)

/-- The gradient: over all rows, one operand's entry times the other's. -/
def gw : FVec Ideal S1024x1024 .f32 := fun i => ∑ T : Fin 8192, (show EReal from aA m c (ix2 T (i 0))) * aB m c (ix2 T (i 1))

/-- What the point's block of 1024 rows adds at one place. -/
def addend (t : Fin 8) (r : Fin 1024) (k : Fin 1024) : EReal :=
  ∑ q : Fin 1024, (show EReal from aA m c (ix2 (⟨t.val * 1024 + q.val, by omega⟩ : Fin 8192) r)) * aB m c (ix2 (⟨t.val * 1024 + q.val, by omega⟩ : Fin 8192) k)

theorem blk0 (t : Fin cfg0.N) (q : Fin 1024) (r : Fin 1024) (h : t.val * 1024 + q.val < 8192) :
    iblk m c 0 t (ix2 q r) = aA m c (ix2 ⟨t.val * 1024 + q.val, h⟩ r) := by
  unfold aA
  blk_point [iblk, V, idx t]

theorem blk1 (t : Fin cfg0.N) (q : Fin 1024) (k : Fin 1024) (h : t.val * 1024 + q.val < 8192) :
    iblk m c 1 t (ix2 q k) = aB m c (ix2 ⟨t.val * 1024 + q.val, h⟩ k) := by
  unfold aB
  blk_point [iblk, V, idx t]

/-- One point's step: what was there, plus its rows' product. -/
theorem step_at (t : Fin cfg0.N) (p : Vec Ideal S1024x1024 .f32) (r : Fin 1024) (k : Fin 1024) :
    k0_pay2 p (iblk m c 0 t) (iblk m c 1 t) (ix2 r k) = (show EReal from p (ix2 r k)) + addend m c t r k := by
  have ht : t.val < 8 := t.isLt
  unfold k0_pay2 addend
  pointwise
  refine congrArg (fun z : EReal => (show EReal from p (ix2 r k)) + z) ?_
  exact Finset.sum_congr rfl fun q _ => congrArg₂ (fun u v : EReal => u * v) (blk0 m c t q r (by omega)) (blk1 m c t q k (by omega))

/-- After a point: the sum of the points' products so far. -/
theorem out_acc (n : ℕ) (h : n < 8) (r : Fin 1024) (k : Fin 1024) :
    outsAt0 m c n h (ix2 r k) = ∑ s : Fin (n + 1), addend m c ⟨s.val, lt_of_lt_of_le s.isLt (Nat.succ_le_of_lt h)⟩ r k := by
  induction n with
  | zero =>
    rw [Fin.sum_univ_one, outsAt0_A m c ⟨0, h⟩ rfl, out_A_2_eq]
    refine (step_at m c ⟨0, h⟩ _ r k).trans ?_
    unfold k0_pay1
    pointwise
  | succ n ih =>
    rw [Fin.sum_univ_castSucc, outsAt0_B m c ⟨n + 1, h⟩ (by show ¬(n + 1) % 8 = 0; omega), out_B_2_eq]
    exact (step_at m c ⟨n + 1, h⟩ _ r k).trans (congrArg₂ (fun u v : EReal => u + v) (ih (by omega)) rfl)

/-- What the last point leaves. -/
theorem out_last (n : ℕ) (h : n < 8) (hn : n = 7) (r : Fin 1024) (k : Fin 1024) : outsAt0 m c n h (ix2 r k) = gw m c (ix2 r k) := by
  subst hn
  exact (out_acc m c 7 h r k).trans
    (Fin.sum_univ_tiles 8 1024 rfl fun T => (show EReal from aA m c (ix2 T r)) * aB m c (ix2 T k)).symm

theorem arr2 : (dats m 0 c).arrAt 2 cfg0.N = gw m c := by
  refine (dats m 0 c).arrAt_eq_of_covers 2 _ (by decide +kernel) fun t hf y => ?_
  have ht : t.val = 7 := by
    have h1 := (flush0_2 t).mp hf
    have h2 : t.val < 8 := t.isLt
    omega
  blk_simp
  rw [after0_2]
  idx_vars y
  refine (out_last m c t.val t.isLt ht y0 y1).trans ?_
  generalize gw m c = A
  blk_ext [idx t]

/-- The reference's result is the kernel's. -/
theorem equal (ht : Cert.Reference4Ideal.S1024x1024.Transposes [1, 0] Cert.Reference4Ideal.S1024x1024) (a : FVec Ideal S8192x1024 .f32)
    (b : FVec Ideal S8192x1024 .f32) (hA : a = aA m c) (hB : b = aB m c) :
    transpose Cert.Reference4Ideal.S1024x1024 [1, 0] (Host.dotGeneral (F := Ideal) Cert.Reference4Ideal.dot_S8192x1024_S8192x1024_S1024x1024_0_0_1_1_n_n none b a)
      ht = gw m c := by
  subst hA hB
  funext i
  idx_vars i
  pointwise
  exact Finset.sum_congr rfl fun T _ => mul_comm _ _

/-- The whole run: the result, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v1) = gw m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr2 m c), (h c).2⟩) (run_blocks m ρ)

end Cert.Kernel4Ideal.Value

end
-- ==== Proof.Mix.Dpw.lean ====
/- The gradient of the convolution group's pointwise weight: the sum of the grid steps' products is the product over all the rows. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Value
open Cert.Kernel5Ideal Cert.Kernel5Ideal.Gen

variable (m : (ℓ : Loc nD τ sig) → Buf (Elt Ideal) ℓ) (c : Dev nD)

/-- Where every window's block lies, at every point. -/
theorem idx : ∀ t : Fin cfg0.N, win0_0.index t = ![t.val, 0] ∧ win0_1.index t = ![t.val, 0] ∧ win0_2.index t = ![0, 0] :=
  (by decide +kernel : ∀ t : Fin grid0.N, _)

/-- The two operands' rows. -/
def aA : FVec Ideal S8192x512 .f32 := m ((c : Thread nD τ).loc main_arg0)
def aB : FVec Ideal S8192x512 .f32 := m ((c : Thread nD τ).loc main_arg1)

/-- The gradient: over all rows, one operand's entry times the other's. -/
def gw : FVec Ideal S512x512 .f32 := fun i => ∑ T : Fin 8192, (show EReal from aA m c (ix2 T (i 0))) * aB m c (ix2 T (i 1))

/-- What the point's block of 1024 rows adds at one place. -/
def addend (t : Fin 8) (r : Fin 512) (k : Fin 512) : EReal :=
  ∑ q : Fin 1024, (show EReal from aA m c (ix2 (⟨t.val * 1024 + q.val, by omega⟩ : Fin 8192) r)) * aB m c (ix2 (⟨t.val * 1024 + q.val, by omega⟩ : Fin 8192) k)

theorem blk0 (t : Fin cfg0.N) (q : Fin 1024) (r : Fin 512) (h : t.val * 1024 + q.val < 8192) :
    iblk m c 0 t (ix2 q r) = aA m c (ix2 ⟨t.val * 1024 + q.val, h⟩ r) := by
  unfold aA
  blk_point [iblk, V, idx t]

theorem blk1 (t : Fin cfg0.N) (q : Fin 1024) (k : Fin 512) (h : t.val * 1024 + q.val < 8192) :
    iblk m c 1 t (ix2 q k) = aB m c (ix2 ⟨t.val * 1024 + q.val, h⟩ k) := by
  unfold aB
  blk_point [iblk, V, idx t]

/-- One point's step: what was there, plus its rows' product. -/
theorem step_at (t : Fin cfg0.N) (p : Vec Ideal S512x512 .f32) (r : Fin 512) (k : Fin 512) :
    k0_pay2 p (iblk m c 0 t) (iblk m c 1 t) (ix2 r k) = (show EReal from p (ix2 r k)) + addend m c t r k := by
  have ht : t.val < 8 := t.isLt
  unfold k0_pay2 addend
  pointwise
  refine congrArg (fun z : EReal => (show EReal from p (ix2 r k)) + z) ?_
  exact Finset.sum_congr rfl fun q _ => congrArg₂ (fun u v : EReal => u * v) (blk0 m c t q r (by omega)) (blk1 m c t q k (by omega))

/-- After a point: the sum of the points' products so far. -/
theorem out_acc (n : ℕ) (h : n < 8) (r : Fin 512) (k : Fin 512) :
    outsAt0 m c n h (ix2 r k) = ∑ s : Fin (n + 1), addend m c ⟨s.val, lt_of_lt_of_le s.isLt (Nat.succ_le_of_lt h)⟩ r k := by
  induction n with
  | zero =>
    rw [Fin.sum_univ_one, outsAt0_A m c ⟨0, h⟩ rfl, out_A_2_eq]
    refine (step_at m c ⟨0, h⟩ _ r k).trans ?_
    unfold k0_pay1
    pointwise
  | succ n ih =>
    rw [Fin.sum_univ_castSucc, outsAt0_B m c ⟨n + 1, h⟩ (by show ¬(n + 1) % 8 = 0; omega), out_B_2_eq]
    exact (step_at m c ⟨n + 1, h⟩ _ r k).trans (congrArg₂ (fun u v : EReal => u + v) (ih (by omega)) rfl)

/-- What the last point leaves. -/
theorem out_last (n : ℕ) (h : n < 8) (hn : n = 7) (r : Fin 512) (k : Fin 512) : outsAt0 m c n h (ix2 r k) = gw m c (ix2 r k) := by
  subst hn
  exact (out_acc m c 7 h r k).trans
    (Fin.sum_univ_tiles 8 1024 rfl fun T => (show EReal from aA m c (ix2 T r)) * aB m c (ix2 T k)).symm

theorem arr2 : (dats m 0 c).arrAt 2 cfg0.N = gw m c := by
  refine (dats m 0 c).arrAt_eq_of_covers 2 _ (by decide +kernel) fun t hf y => ?_
  have ht : t.val = 7 := by
    have h1 := (flush0_2 t).mp hf
    have h2 : t.val < 8 := t.isLt
    omega
  blk_simp
  rw [after0_2]
  idx_vars y
  refine (out_last m c t.val t.isLt ht y0 y1).trans ?_
  generalize gw m c = A
  blk_ext [idx t]

/-- The reference's result is the kernel's. -/
theorem equal (ht : Cert.Reference5Ideal.S512x512.Transposes [1, 0] Cert.Reference5Ideal.S512x512) (a : FVec Ideal S8192x512 .f32)
    (b : FVec Ideal S8192x512 .f32) (hA : a = aA m c) (hB : b = aB m c) :
    transpose Cert.Reference5Ideal.S512x512 [1, 0] (Host.dotGeneral (F := Ideal) Cert.Reference5Ideal.dot_S8192x512_S8192x512_S512x512_0_0_1_1_n_n none b a)
      ht = gw m c := by
  subst hA hB
  funext i
  idx_vars i
  pointwise
  exact Finset.sum_congr rfl fun T _ => mul_comm _ _

/-- The whole run: the result, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v2) = gw m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr2 m c), (h c).2⟩) (run_blocks m ρ)

end Cert.Kernel5Ideal.Value

end
-- ==== Proof.Mix.Dwin.lean ====
/- The gradient of the mixer's input projection, transposed: the sum of the grid steps' products is the product over all the rows. -/
module

public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Value
open Cert.Kernel6Ideal Cert.Kernel6Ideal.Gen

variable (m : (ℓ : Loc nD τ sig) → Buf (Elt Ideal) ℓ) (c : Dev nD)

/-- Where every window's block lies, at every point. -/
theorem idx : ∀ t : Fin cfg0.N, win0_0.index t = ![t.val, 0] ∧ win0_1.index t = ![t.val, 0] ∧ win0_2.index t = ![0, 0] :=
  (by decide +kernel : ∀ t : Fin grid0.N, _)

/-- The two operands' rows. -/
def aA : FVec Ideal S8192x1536 .f32 := m ((c : Thread nD τ).loc main_arg0)
def aB : FVec Ideal S8192x1024 .f32 := m ((c : Thread nD τ).loc main_arg1)

/-- The gradient: over all rows, one operand's entry times the other's. -/
def gw : FVec Ideal S1536x1024 .f32 := fun i => ∑ T : Fin 8192, (show EReal from aA m c (ix2 T (i 0))) * aB m c (ix2 T (i 1))

/-- What the point's block of 1024 rows adds at one place. -/
def addend (t : Fin 8) (r : Fin 1536) (k : Fin 1024) : EReal :=
  ∑ q : Fin 1024, (show EReal from aA m c (ix2 (⟨t.val * 1024 + q.val, by omega⟩ : Fin 8192) r)) * aB m c (ix2 (⟨t.val * 1024 + q.val, by omega⟩ : Fin 8192) k)

theorem blk0 (t : Fin cfg0.N) (q : Fin 1024) (r : Fin 1536) (h : t.val * 1024 + q.val < 8192) :
    iblk m c 0 t (ix2 q r) = aA m c (ix2 ⟨t.val * 1024 + q.val, h⟩ r) := by
  unfold aA
  blk_point [iblk, V, idx t]

theorem blk1 (t : Fin cfg0.N) (q : Fin 1024) (k : Fin 1024) (h : t.val * 1024 + q.val < 8192) :
    iblk m c 1 t (ix2 q k) = aB m c (ix2 ⟨t.val * 1024 + q.val, h⟩ k) := by
  unfold aB
  blk_point [iblk, V, idx t]

/-- One point's step: what was there, plus its rows' product. -/
theorem step_at (t : Fin cfg0.N) (p : Vec Ideal S1536x1024 .f32) (r : Fin 1536) (k : Fin 1024) :
    k0_pay2 p (iblk m c 0 t) (iblk m c 1 t) (ix2 r k) = (show EReal from p (ix2 r k)) + addend m c t r k := by
  have ht : t.val < 8 := t.isLt
  unfold k0_pay2 addend
  pointwise
  refine congrArg (fun z : EReal => (show EReal from p (ix2 r k)) + z) ?_
  exact Finset.sum_congr rfl fun q _ => congrArg₂ (fun u v : EReal => u * v) (blk0 m c t q r (by omega)) (blk1 m c t q k (by omega))

/-- After a point: the sum of the points' products so far. -/
theorem out_acc (n : ℕ) (h : n < 8) (r : Fin 1536) (k : Fin 1024) :
    outsAt0 m c n h (ix2 r k) = ∑ s : Fin (n + 1), addend m c ⟨s.val, lt_of_lt_of_le s.isLt (Nat.succ_le_of_lt h)⟩ r k := by
  induction n with
  | zero =>
    rw [Fin.sum_univ_one, outsAt0_A m c ⟨0, h⟩ rfl, out_A_2_eq]
    refine (step_at m c ⟨0, h⟩ _ r k).trans ?_
    unfold k0_pay1
    pointwise
  | succ n ih =>
    rw [Fin.sum_univ_castSucc, outsAt0_B m c ⟨n + 1, h⟩ (by show ¬(n + 1) % 8 = 0; omega), out_B_2_eq]
    exact (step_at m c ⟨n + 1, h⟩ _ r k).trans (congrArg₂ (fun u v : EReal => u + v) (ih (by omega)) rfl)

/-- What the last point leaves. -/
theorem out_last (n : ℕ) (h : n < 8) (hn : n = 7) (r : Fin 1536) (k : Fin 1024) : outsAt0 m c n h (ix2 r k) = gw m c (ix2 r k) := by
  subst hn
  exact (out_acc m c 7 h r k).trans
    (Fin.sum_univ_tiles 8 1024 rfl fun T => (show EReal from aA m c (ix2 T r)) * aB m c (ix2 T k)).symm

theorem arr2 : (dats m 0 c).arrAt 2 cfg0.N = gw m c := by
  refine (dats m 0 c).arrAt_eq_of_covers 2 _ (by decide +kernel) fun t hf y => ?_
  have ht : t.val = 7 := by
    have h1 := (flush0_2 t).mp hf
    have h2 : t.val < 8 := t.isLt
    omega
  blk_simp
  rw [after0_2]
  idx_vars y
  refine (out_last m c t.val t.isLt ht y0 y1).trans ?_
  generalize gw m c = A
  blk_ext [idx t]

/-- The reference's result, transposed twice, is the kernel's. -/
theorem equal (h1 : Cert.Reference6Ideal.S1536x1024.Transposes [1, 0] Cert.Reference6Ideal.S1024x1536)
    (h2 : Cert.Reference6Ideal.S1024x1536.Transposes [1, 0] Cert.Reference6Ideal.S1536x1024) (a : FVec Ideal S8192x1536 .f32)
    (b : FVec Ideal S8192x1024 .f32) (hA : a = aA m c) (hB : b = aB m c) :
    transpose Cert.Reference6Ideal.S1536x1024 [1, 0] (transpose Cert.Reference6Ideal.S1024x1536 [1, 0]
      (Host.dotGeneral (F := Ideal) Cert.Reference6Ideal.dot_S8192x1536_S8192x1024_S1536x1024_0_0_1_1_n_n none a b) h1) h2 = gw m c := by
  subst hA hB
  funext i
  idx_vars i
  pointwise
  rfl

/-- The whole run: the result, and the arguments as they were. -/
theorem run_values (ρ : Dev nD → PrngReg) : θ_run (defs (F := Ideal)) (onTc (τ := τ) (main (F := Ideal))) ⟨m, fun _ => 0, ρ⟩ (fun r => ∀ c : Dev nD,
      r.2.mem ((c.tc : Thread nD τ).loc main_v2) = gw m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (arr2 m c), (h c).2⟩) (run_blocks m ρ)

end Cert.Kernel6Ideal.Value

end
-- ==== Proof.lean ====
/- The proof of the claims about the feed-forward layer's backward call, the call for its weights' gradients, its forward call
   with the loss head and the mixer's three weight products: the frames, that each idealized program is the program, and the equations with the references. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Ffn1.Frame
import proofs.«01_k».proof.Proof.Ffn1.Same
public import proofs.«01_k».proof.Proof.Ffn1.Equal
import proofs.«01_k».proof.Proof.Wgrad.Same
public import proofs.«01_k».proof.Proof.Wgrad.Equal
public import proofs.«01_k».proof.Proof.Fwd.Frame
import proofs.«01_k».proof.Proof.Fwd.Same
public import proofs.«01_k».proof.Proof.Fwd.Equal
import proofs.«01_k».proof.Proof.Mix.Same
public import proofs.«01_k».proof.Proof.Mix.Dwout
public import proofs.«01_k».proof.Proof.Mix.Dpw
public import proofs.«01_k».proof.Proof.Mix.Dwin
public import Idealize.ShloMosaic.Lib.Claim
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel's frame over machine floats: the two programs have one text, and the run holds over any float values. -/
theorem frame_kernel : Cert.quiescent_Kernel := fun m ρ _ => by
  have h := Cert.KernelIdeal.Gen.frame (F := Bits) m ρ
  rw [show @Cert.KernelIdeal.defs Bits _ Cert.KernelIdeal.Gen.facts = @Cert.Kernel.defs Bits _ Cert.Kernel.Gen.facts from Cert.Ffn1.same_defs,
    show @Cert.KernelIdeal.main Bits _ Cert.KernelIdeal.Gen.facts = @Cert.Kernel.main Bits _ Cert.Kernel.Gen.facts from Cert.Ffn1.same_main] at h
  exact h

theorem frame_ideal : Cert.quiescent_KernelIdeal := fun m ρ _ => Cert.KernelIdeal.Gen.frame m ρ

theorem frame_ideal_finite : Cert.quiescent_KernelIdeal_pre_finite := fun m ρ _ => Cert.KernelIdeal.Gen.frame m ρ

theorem frame_reference : Cert.quiescent_ReferenceIdeal := by
  intro m ρ _
  exact (θ_run Cert.ReferenceIdeal.defs _ _).mono
    (fun r h => ⟨fun c => (h c).2.2, sem_eq_zero_of_no_sems (by decide) r.2⟩) (Cert.ReferenceIdeal.Value.run m ρ)

theorem frame_reference_finite : Cert.quiescent_ReferenceIdeal_pre_finite := fun m ρ _ => frame_reference m ρ trivial

theorem algebraic : Cert.algebraic_KernelIdeal_ReferenceIdeal_pre_finite := by
  intro m g m' g' hpre hagree
  refine ⟨fun c => Cert.KernelIdeal.Value.gdx m c, fun c => Cert.KernelIdeal.Value.gdn m c,
    Cert.KernelIdeal.Value.run_values m g, ?_⟩
  refine (θ_run Cert.ReferenceIdeal.defs _ _).mono (fun r h c => ?_) (Cert.ReferenceIdeal.Value.run m' g')
  obtain ⟨hX, hN, hG, hU, hD, hO⟩ := hagree c
  obtain ⟨pX, pN, pG, pU, pD, pO⟩ := hpre c
  have fX := Cert.KernelIdeal.Value.x_of _ _ _ _ _ _ pX
  have fN := Cert.KernelIdeal.Value.n_of _ _ _ _ _ _ pN
  have fG := Cert.KernelIdeal.Value.g_of _ _ _ _ _ _ pG
  have fU := Cert.KernelIdeal.Value.u_of _ _ _ _ _ _ pU
  have fD := Cert.KernelIdeal.Value.d_of _ _ _ _ _ _ pD
  have fO := Cert.KernelIdeal.Value.o_of _ _ _ _ _ _ pO
  exact ⟨(h c).1.trans (Cert.KernelIdeal.Value.dx_equal m m' c hX hN hG hU hD hO fX fN fG fU fD fO),
    (h c).2.1.trans (Cert.KernelIdeal.Value.gain_equal m m' c hX hN hG hU hD hO fX fN fG fU fD fO), (h c).2.2⟩

/-- The frame of the weights' gradient over machine floats, from the same run. -/
theorem frame_kernel2 : Cert.quiescent_Kernel2 := fun m ρ _ => by
  have h := Cert.Kernel2Ideal.Gen.frame (F := Bits) m ρ
  rw [show @Cert.Kernel2Ideal.defs Bits _ Cert.Kernel2Ideal.Gen.facts = @Cert.Kernel2.defs Bits _ Cert.Kernel2.Gen.facts from Cert.Wgrad.same_defs,
    show @Cert.Kernel2Ideal.main Bits _ Cert.Kernel2Ideal.Gen.facts = @Cert.Kernel2.main Bits _ Cert.Kernel2.Gen.facts from Cert.Wgrad.same_main] at h
  exact h

theorem frame_ideal2 : Cert.quiescent_Kernel2Ideal := fun m ρ _ => Cert.Kernel2Ideal.Gen.frame m ρ

theorem frame_reference2 : Cert.quiescent_Reference2Ideal := by
  intro m ρ _
  exact (θ_run Cert.Reference2Ideal.defs _ _).mono
    (fun r h => ⟨fun c => (h c).2, sem_eq_zero_of_no_sems (by decide) r.2⟩) (Cert.Reference2Ideal.Value.run m ρ)

theorem algebraic2 : Cert.algebraic_Kernel2Ideal_Reference2Ideal := by
  intro m g m' g' _ hagree
  refine ⟨fun c => Cert.Kernel2Ideal.Value.gw m c, Cert.Kernel2Ideal.Value.run_values m g, ?_⟩
  refine (θ_run Cert.Reference2Ideal.defs _ _).mono (fun r h c => ?_) (Cert.Reference2Ideal.Value.run m' g')
  obtain ⟨hH, hO⟩ := hagree c
  exact ⟨(h c).1.trans (Cert.Kernel2Ideal.Value.equal m c _ _ _ hH hO), (h c).2⟩

/-- The frame of the forward call over machine floats, from the same run. -/
theorem frame_kernel3 : Cert.quiescent_Kernel3 := fun m ρ _ => by
  have h := Cert.Kernel3Ideal.Gen.frame (F := Bits) m ρ
  rw [show @Cert.Kernel3Ideal.defs Bits _ Cert.Kernel3Ideal.Gen.facts = @Cert.Kernel3.defs Bits _ Cert.Kernel3.Gen.facts from Cert.Fwd.same_defs,
    show @Cert.Kernel3Ideal.main Bits _ Cert.Kernel3Ideal.Gen.facts = @Cert.Kernel3.main Bits _ Cert.Kernel3.Gen.facts from Cert.Fwd.same_main] at h
  exact h

theorem frame_ideal3 : Cert.quiescent_Kernel3Ideal := fun m ρ _ => Cert.Kernel3Ideal.Gen.frame m ρ

theorem frame_reference3 : Cert.quiescent_Reference3Ideal := by
  intro m ρ _
  exact (θ_run Cert.Reference3Ideal.defs _ _).mono
    (fun r h => ⟨fun c => (h c).2.2.2, sem_eq_zero_of_no_sems (by decide) r.2⟩) (Cert.Reference3Ideal.Value.run m ρ)

theorem algebraic3 : Cert.algebraic_Kernel3Ideal_Reference3Ideal := by
  intro m g m' g' _ hagree
  refine ⟨fun c => Cert.Kernel3Ideal.Value.gloss m c, fun c => Cert.Kernel3Ideal.Value.gdo m c,
    fun c => Cert.Kernel3Ideal.Value.gdf m c, Cert.Kernel3Ideal.Value.run_values m g, ?_⟩
  refine (θ_run Cert.Reference3Ideal.defs _ _).mono (fun r h c => ?_) (Cert.Reference3Ideal.Value.run m' g')
  obtain ⟨hX, hN, hG, hU, hD, -, hT, hF⟩ := hagree c
  exact ⟨(h c).1.trans (Cert.Kernel3Ideal.Value.loss_equal m m' c hX hN hG hU hD hT hF),
    (h c).2.1.trans (Cert.Kernel3Ideal.Value.dx_equal m m' c hX hN hG hU hD hT hF),
    (h c).2.2.1.trans (Cert.Kernel3Ideal.Value.gain_equal m m' c hX hN hG hU hD hT hF), (h c).2.2.2⟩

/-- The frame of the output projection's gradient over machine floats, from the same run. -/
theorem frame_kernel4 : Cert.quiescent_Kernel4 := fun m ρ _ => by
  have h := Cert.Kernel4Ideal.Gen.frame (F := Bits) m ρ
  rw [show @Cert.Kernel4Ideal.defs Bits _ Cert.Kernel4Ideal.Gen.facts = @Cert.Kernel4.defs Bits _ Cert.Kernel4.Gen.facts from Cert.Mix.dwout_defs,
    show @Cert.Kernel4Ideal.main Bits _ Cert.Kernel4Ideal.Gen.facts = @Cert.Kernel4.main Bits _ Cert.Kernel4.Gen.facts from Cert.Mix.dwout_main] at h
  exact h

theorem frame_ideal4 : Cert.quiescent_Kernel4Ideal := fun m ρ _ => Cert.Kernel4Ideal.Gen.frame m ρ

theorem frame_reference4 : Cert.quiescent_Reference4Ideal := by
  intro m ρ _
  exact (θ_run Cert.Reference4Ideal.defs _ _).mono
    (fun r h => ⟨fun c => (h c).2, sem_eq_zero_of_no_sems (by decide) r.2⟩) (Cert.Reference4Ideal.Value.run m ρ)

theorem algebraic4 : Cert.algebraic_Kernel4Ideal_Reference4Ideal := by
  intro m g m' g' _ hagree
  refine ⟨fun c => Cert.Kernel4Ideal.Value.gw m c, Cert.Kernel4Ideal.Value.run_values m g, ?_⟩
  refine (θ_run Cert.Reference4Ideal.defs _ _).mono (fun r h c => ?_) (Cert.Reference4Ideal.Value.run m' g')
  obtain ⟨hA, hB⟩ := hagree c
  exact ⟨(h c).1.trans (Cert.Kernel4Ideal.Value.equal m c _ _ _ hA hB), (h c).2⟩

/-- The frame of the pointwise weight's gradient over machine floats, from the same run. -/
theorem frame_kernel5 : Cert.quiescent_Kernel5 := fun m ρ _ => by
  have h := Cert.Kernel5Ideal.Gen.frame (F := Bits) m ρ
  rw [show @Cert.Kernel5Ideal.defs Bits _ Cert.Kernel5Ideal.Gen.facts = @Cert.Kernel5.defs Bits _ Cert.Kernel5.Gen.facts from Cert.Mix.dpw_defs,
    show @Cert.Kernel5Ideal.main Bits _ Cert.Kernel5Ideal.Gen.facts = @Cert.Kernel5.main Bits _ Cert.Kernel5.Gen.facts from Cert.Mix.dpw_main] at h
  exact h

theorem frame_ideal5 : Cert.quiescent_Kernel5Ideal := fun m ρ _ => Cert.Kernel5Ideal.Gen.frame m ρ

theorem frame_reference5 : Cert.quiescent_Reference5Ideal := by
  intro m ρ _
  exact (θ_run Cert.Reference5Ideal.defs _ _).mono
    (fun r h => ⟨fun c => (h c).2, sem_eq_zero_of_no_sems (by decide) r.2⟩) (Cert.Reference5Ideal.Value.run m ρ)

theorem algebraic5 : Cert.algebraic_Kernel5Ideal_Reference5Ideal := by
  intro m g m' g' _ hagree
  refine ⟨fun c => Cert.Kernel5Ideal.Value.gw m c, Cert.Kernel5Ideal.Value.run_values m g, ?_⟩
  refine (θ_run Cert.Reference5Ideal.defs _ _).mono (fun r h c => ?_) (Cert.Reference5Ideal.Value.run m' g')
  obtain ⟨hA, hB⟩ := hagree c
  exact ⟨(h c).1.trans (Cert.Kernel5Ideal.Value.equal m c _ _ _ hA hB), (h c).2⟩

/-- The frame of the input projection's gradient over machine floats, from the same run. -/
theorem frame_kernel6 : Cert.quiescent_Kernel6 := fun m ρ _ => by
  have h := Cert.Kernel6Ideal.Gen.frame (F := Bits) m ρ
  rw [show @Cert.Kernel6Ideal.defs Bits _ Cert.Kernel6Ideal.Gen.facts = @Cert.Kernel6.defs Bits _ Cert.Kernel6.Gen.facts from Cert.Mix.dwin_defs,
    show @Cert.Kernel6Ideal.main Bits _ Cert.Kernel6Ideal.Gen.facts = @Cert.Kernel6.main Bits _ Cert.Kernel6.Gen.facts from Cert.Mix.dwin_main] at h
  exact h

theorem frame_ideal6 : Cert.quiescent_Kernel6Ideal := fun m ρ _ => Cert.Kernel6Ideal.Gen.frame m ρ

theorem frame_reference6 : Cert.quiescent_Reference6Ideal := by
  intro m ρ _
  exact (θ_run Cert.Reference6Ideal.defs _ _).mono
    (fun r h => ⟨fun c => (h c).2, sem_eq_zero_of_no_sems (by decide) r.2⟩) (Cert.Reference6Ideal.Value.run m ρ)

theorem algebraic6 : Cert.algebraic_Kernel6Ideal_Reference6Ideal := by
  intro m g m' g' _ hagree
  refine ⟨fun c => Cert.Kernel6Ideal.Value.gw m c, Cert.Kernel6Ideal.Value.run_values m g, ?_⟩
  refine (θ_run Cert.Reference6Ideal.defs _ _).mono (fun r h c => ?_) (Cert.Reference6Ideal.Value.run m' g')
  obtain ⟨hA, hB⟩ := hagree c
  exact ⟨(h c).1.trans (Cert.Kernel6Ideal.Value.equal m c _ _ _ _ hA hB), (h c).2⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts,
  frame_kernel, frame_ideal, frame_ideal_finite, frame_reference, frame_reference_finite, frame_kernel2, frame_ideal2, frame_reference2,
  frame_kernel3, frame_ideal3, frame_reference3,
  frame_kernel4, frame_ideal4, frame_reference4,
  frame_kernel5, frame_ideal5, frame_reference5,
  frame_kernel6, frame_ideal6, frame_reference6,
  trivial, algebraic, trivial, algebraic2, trivial, algebraic3, trivial, algebraic4, trivial, algebraic5, trivial, algebraic6⟩

end Cert.Proof

end
